-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv" .f32 0x3C4A4588#32 ((81⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v336) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x64x192x256 : Shape := ⟨4, ![8, 64, 192, 256]⟩
abbrev S8x192x64x256 : Shape := ⟨4, ![8, 192, 64, 256]⟩
abbrev S_ : Shape := ⟨0, ![]⟩
abbrev S8x256x64x264 : Shape := ⟨4, ![8, 256, 64, 264]⟩
abbrev S8x81x192x256 : Shape := ⟨4, ![8, 81, 192, 256]⟩
abbrev S1x64x64x256 : Shape := ⟨4, ![1, 64, 64, 256]⟩
abbrev S1x64x64x264 : Shape := ⟨4, ![1, 64, 64, 264]⟩
abbrev S1x81x64x256 : Shape := ⟨4, ![1, 81, 64, 256]⟩
abbrev S72x64x256 : Shape := ⟨3, ![72, 64, 256]⟩
abbrev S64x64x256 : Shape := ⟨3, ![64, 64, 256]⟩
abbrev S1x8x8x256 : Shape := ⟨4, ![1, 8, 8, 256]⟩
abbrev S8x8x256 : Shape := ⟨3, ![8, 8, 256]⟩
abbrev S1x8x64x256 : Shape := ⟨4, ![1, 8, 64, 256]⟩
abbrev S8x64x256 : Shape := ⟨3, ![8, 64, 256]⟩
abbrev S1x64x256 : Shape := ⟨3, ![1, 64, 256]⟩
abbrev S64x256 : Shape := ⟨2, ![64, 256]⟩
abbrev S256 : Shape := ⟨1, ![256]⟩
abbrev S1x1x1x256 : Shape := ⟨4, ![1, 1, 1, 256]⟩
abbrev S1x1x64x256 : Shape := ⟨4, ![1, 1, 64, 256]⟩

abbrev nBuf : Space → Nat
  | .hbm => 7
  | .vmem => 11
  | .smem => 0
  | _ => 0

abbrev bufTy : (tb : Table) → Fin (tcTables nBuf tb) → BufTy
  | .hbm, ⟨0, _⟩ => ⟨S8x64x192x256, .f32⟩
  | .hbm, ⟨1, _⟩ => ⟨S8x64x192x256, .f32⟩
  | .hbm, ⟨2, _⟩ => ⟨S8x192x64x256, .f32⟩
  | .hbm, ⟨3, _⟩ => ⟨S_, .i32⟩
  | .hbm, ⟨4, _⟩ => ⟨S_, .f32⟩
  | .hbm, ⟨5, _⟩ => ⟨S8x256x64x264, .f32⟩
  | .hbm, ⟨6, _⟩ => ⟨S8x81x192x256, .f32⟩
  | .local _ .vmem, ⟨0, _⟩ => ⟨S1x64x64x256, .f32⟩
  | .local _ .vmem, ⟨1, _⟩ => ⟨S1x64x64x256, .f32⟩
  | .local _ .vmem, ⟨2, _⟩ => ⟨S1x64x64x264, .f32⟩
  | .local _ .vmem, ⟨3, _⟩ => ⟨S1x64x64x264, .f32⟩
  | .local _ .vmem, ⟨4, _⟩ => ⟨S1x64x64x264, .f32⟩
  | .local _ .vmem, ⟨5, _⟩ => ⟨S1x64x64x264, .f32⟩
  | .local _ .vmem, ⟨6, _⟩ => ⟨S1x81x64x256, .f32⟩
  | .local _ .vmem, ⟨7, _⟩ => ⟨S1x81x64x256, .f32⟩
  | .local _ .vmem, ⟨8, _⟩ => ⟨S72x64x256, .f32⟩
  | .local _ .vmem, ⟨9, _⟩ => ⟨S72x64x256, .f32⟩
  | .local _ .vmem, ⟨10, _⟩ => ⟨S64x64x256, .f32⟩
  | _, _ => ⟨S8x64x192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 3], ![false, false]⟩

@[reducible] def k0_t1_loop : Scf.Loop 32 :=
  let c0_i32 : BitVec 32 := 0#32
  let c64_i32 : BitVec 32 := 64#32
  let v522 : BitVec 32 := Scalar.addi c0_i32 c64_i32
  let c1_i32 : BitVec 32 := 1#32
  ⟨c0_i32, v522, c1_i32⟩
def k0_off1 (k0_t1 : Fin k0_t1_loop.trips) : Fin 3 → Nat :=
  let c0_i32 : BitVec 32 := 0#32
  let c1_i32 : BitVec 32 := 1#32
  let arg9 : BitVec 32 := Scf.iv c0_i32 c1_i32 k0_t1
  let v571 : Index := Scalar.indexCast arg9
  let c0_598 : Index := 0#32
  let c0_599 : Index := 0#32
  ![v571.toNat, 0, 0]
def k0_off2 (k0_t1 : Fin k0_t1_loop.trips) (c0_i32_600 : BitVec 32) : Fin 3 → Nat :=
  let c0_i32 : BitVec 32 := 0#32
  let c1_i32 : BitVec 32 := 1#32
  let arg9 : BitVec 32 := Scf.iv c0_i32 c1_i32 k0_t1
  let v574 : BitVec 32 := Scalar.addi arg9 c0_i32_600
  let v575 : Index := Scalar.indexCast v574
  let c0_601 : Index := 0#32
  let c0_602 : Index := 0#32
  ![v575.toNat, 0, 0]
def k0_off3 (k0_t1 : Fin k0_t1_loop.trips) : Fin 4 → Nat :=
  let c0_604 : Index := 0#32
  let c40_605 : Index := 40#32
  let c0_i32 : BitVec 32 := 0#32
  let c1_i32 : BitVec 32 := 1#32
  let arg9 : BitVec 32 := Scf.iv c0_i32 c1_i32 k0_t1
  let v580 : Index := Scalar.indexCast arg9
  let c0_606 : Index := 0#32
  ![0, 40, v580.toNat, 0]
def k0_off4 (k0_t1 : Fin k0_t1_loop.trips) : Fin 4 → Nat :=
  let c0_611 : Index := 0#32
  let c31 : Index := 31#32
  let c0_i32 : BitVec 32 := 0#32
  let c1_i32 : BitVec 32 := 1#32
  let arg9 : BitVec 32 := Scf.iv c0_i32 c1_i32 k0_t1
  let v590 : Index := Scalar.indexCast arg9
  let c0_612 : Index := 0#32
  ![0, 31, v590.toNat, 0]
def k0_off5 (k0_t1 : Fin k0_t1_loop.trips) : Fin 4 → Nat :=
  let c0_616 : Index := 0#32
  let c22 : Index := 22#32
  let c0_i32 : BitVec 32 := 0#32
  let c1_i32 : BitVec 32 := 1#32
  let arg9 : BitVec 32 := Scf.iv c0_i32 c1_i32 k0_t1
  let v600 : Index := Scalar.indexCast arg9
  let c0_617 : Index := 0#32
  ![0, 22, v600.toNat, 0]
def k0_off6 (k0_t1 : Fin k0_t1_loop.trips) : Fin 4 → Nat :=
  let c0_621 : Index := 0#32
  let c13 : Index := 13#32
  let c0_i32 : BitVec 32 := 0#32
  let c1_i32 : BitVec 32 := 1#32
  let arg9 : BitVec 32 := Scf.iv c0_i32 c1_i32 k0_t1
  let v610 : Index := Scalar.indexCast arg9
  let c0_622 : Index := 0#32
  ![0, 13, v610.toNat, 0]
def k0_off7 (k0_t1 : Fin k0_t1_loop.trips) : Fin 4 → Nat :=
  let c0_626 : Index := 0#32
  let c4_627 : Index := 4#32
  let c0_i32 : BitVec 32 := 0#32
  let c1_i32 : BitVec 32 := 1#32
  let arg9 : BitVec 32 := Scf.iv c0_i32 c1_i32 k0_t1
  let v620 : Index := Scalar.indexCast arg9
  let c0_628 : Index := 0#32
  ![0, 4, v620.toNat, 0]
def k0_off8 (k0_t1 : Fin k0_t1_loop.trips) : Fin 4 → Nat :=
  let c0_632 : Index := 0#32
  let c76 : Index := 76#32
  let c0_i32 : BitVec 32 := 0#32
  let c1_i32 : BitVec 32 := 1#32
  let arg9 : BitVec 32 := Scf.iv c0_i32 c1_i32 k0_t1
  let v630 : Index := Scalar.indexCast arg9
  let c0_633 : Index := 0#32
  ![0, 76, v630.toNat, 0]
def k0_off9 (k0_t1 : Fin k0_t1_loop.trips) : Fin 4 → Nat :=
  let c0_637 : Index := 0#32
  let c67 : Index := 67#32
  let c0_i32 : BitVec 32 := 0#32
  let c1_i32 : BitVec 32 := 1#32
  let arg9 : BitVec 32 := Scf.iv c0_i32 c1_i32 k0_t1
  let v640 : Index := Scalar.indexCast arg9
  let c0_638 : Index := 0#32
  ![0, 67, v640.toNat, 0]
def k0_off10 (k0_t1 : Fin k0_t1_loop.trips) : Fin 4 → Nat :=
  let c0_642 : Index := 0#32
  let c58 : Index := 58#32
  let c0_i32 : BitVec 32 := 0#32
  let c1_i32 : BitVec 32 := 1#32
  let arg9 : BitVec 32 := Scf.iv c0_i32 c1_i32 k0_t1
  let v650 : Index := Scalar.indexCast arg9
  let c0_643 : Index := 0#32
  ![0, 58, v650.toNat, 0]
def k0_off11 (k0_t1 : Fin k0_t1_loop.trips) : Fin 4 → Nat :=
  let c0_647 : Index := 0#32
  let c49 : Index := 49#32
  let c0_i32 : BitVec 32 := 0#32
  let c1_i32 : BitVec 32 := 1#32
  let arg9 : BitVec 32 := Scf.iv c0_i32 c1_i32 k0_t1
  let v660 : Index := Scalar.indexCast arg9
  let c0_648 : Index := 0#32
  ![0, 49, v660.toNat, 0]
def k0_off12 (k0_t1 : Fin k0_t1_loop.trips) : Fin 4 → Nat :=
  let c0_649 : Index := 0#32
  let c0_i32 : BitVec 32 := 0#32
  let c1_i32 : BitVec 32 := 1#32
  let arg9 : BitVec 32 := Scf.iv c0_i32 c1_i32 k0_t1
  let v664 : Index := Scalar.indexCast arg9
  let c0_650 : Index := 0#32
  let c1_651 : Index := 1#32
  ![0, v664.toNat, 0, 1]
def k0_off13 (k0_t1 : Fin k0_t1_loop.trips) : Fin 3 → Nat :=
  let c0_i32 : BitVec 32 := 0#32
  let c1_i32 : BitVec 32 := 1#32
  let arg9 : BitVec 32 := Scf.iv c0_i32 c1_i32 k0_t1
  let v667 : Index := Scalar.indexCast arg9
  let c0_652 : Index := 0#32
  let c0_653 : Index := 0#32
  ![v667.toNat, 0, 0]
@[reducible] def k0_t2_loop : Scf.Loop 32 :=
  let c0_i32_523 : BitVec 32 := 0#32
  let c64_i32_524 : BitVec 32 := 64#32
  let v528 : BitVec 32 := Scalar.addi c0_i32_523 c64_i32_524
  let c1_i32_525 : BitVec 32 := 1#32
  ⟨c0_i32_523, v528, c1_i32_525⟩
def k0_off14 (k0_t2 : Fin k0_t2_loop.trips) : Fin 3 → Nat :=
  let c0_i32_523 : BitVec 32 := 0#32
  let c1_i32_525 : BitVec 32 := 1#32
  let arg9 : BitVec 32 := Scf.iv c0_i32_523 c1_i32_525 k0_t2
  let v571 : Index := Scalar.indexCast arg9
  let c0_598 : Index := 0#32
  let c0_599 : Index := 0#32
  ![v571.toNat, 0, 0]
def k0_off15 (k0_t2 : Fin k0_t2_loop.trips) (c0_i32_600 : BitVec 32) : Fin 3 → Nat :=
  let c0_i32_523 : BitVec 32 := 0#32
  let c1_i32_525 : BitVec 32 := 1#32
  let arg9 : BitVec 32 := Scf.iv c0_i32_523 c1_i32_525 k0_t2
  let v574 : BitVec 32 := Scalar.addi arg9 c0_i32_600
  let v575 : Index := Scalar.indexCast v574
  let c0_601 : Index := 0#32
  let c0_602 : Index := 0#32
  ![v575.toNat, 0, 0]
def k0_off16 (k0_t2 : Fin k0_t2_loop.trips) : Fin 4 → Nat :=
  let c0_604 : Index := 0#32
  let c39 : Index := 39#32
  let c0_i32_523 : BitVec 32 := 0#32
  let c1_i32_525 : BitVec 32 := 1#32
  let arg9 : BitVec 32 := Scf.iv c0_i32_523 c1_i32_525 k0_t2
  let v580 : Index := Scalar.indexCast arg9
  let c0_605 : Index := 0#32
  ![0, 39, v580.toNat, 0]
def k0_off17 (k0_t2 : Fin k0_t2_loop.trips) : Fin 4 → Nat :=
  let c0_610 : Index := 0#32
  let c30 : Index := 30#32
  let c0_i32_523 : BitVec 32 := 0#32
  let c1_i32_525 : BitVec 32 := 1#32
  let arg9 : BitVec 32 := Scf.iv c0_i32_523 c1_i32_525 k0_t2
  let v590 : Index := Scalar.indexCast arg9
  let c0_611 : Index := 0#32
  ![0, 30, v590.toNat, 0]
def k0_off18 (k0_t2 : Fin k0_t2_loop.trips) : Fin 4 → Nat :=
  let c0_615 : Index := 0#32
  let c21 : Index := 21#32
  let c0_i32_523 : BitVec 32 := 0#32
  let c1_i32_525 : BitVec 32 := 1#32
  let arg9 : BitVec 32 := Scf.iv c0_i32_523 c1_i32_525 k0_t2
  let v600 : Index := Scalar.indexCast arg9
  let c0_616 : Index := 0#32
  ![0, 21, v600.toNat, 0]
def k0_off19 (k0_t2 : Fin k0_t2_loop.trips) : Fin 4 → Nat :=
  let c0_620 : Index := 0#32
  let c12 : Index := 12#32
  let c0_i32_523 : BitVec 32 := 0#32
  let c1_i32_525 : BitVec 32 := 1#32
  let arg9 : BitVec 32 := Scf.iv c0_i32_523 c1_i32_525 k0_t2
  let v610 : Index := Scalar.indexCast arg9
  let c0_621 : Index := 0#32
  ![0, 12, v610.toNat, 0]
def k0_off20 (k0_t2 : Fin k0_t2_loop.trips) : Fin 4 → Nat :=
  let c0_625 : Index := 0#32
  let c3_626 : Index := 3#32
  let c0_i32_523 : BitVec 32 := 0#32
  let c1_i32_525 : BitVec 32 := 1#32
  let arg9 : BitVec 32 := Scf.iv c0_i32_523 c1_i32_525 k0_t2
  let v620 : Index := Scalar.indexCast arg9
  let c0_627 : Index := 0#32
  ![0, 3, v620.toNat, 0]
def k0_off21 (k0_t2 : Fin k0_t2_loop.trips) : Fin 4 → Nat :=
  let c0_631 : Index := 0#32
  let c75 : Index := 75#32
  let c0_i32_523 : BitVec 32 := 0#32
  let c1_i32_525 : BitVec 32 := 1#32
  let arg9 : BitVec 32 := Scf.iv c0_i32_523 c1_i32_525 k0_t2
  let v630 : Index := Scalar.indexCast arg9
  let c0_632 : Index := 0#32
  ![0, 75, v630.toNat, 0]
def k0_off22 (k0_t2 : Fin k0_t2_loop.trips) : Fin 4 → Nat :=
  let c0_636 : Index := 0#32
  let c66 : Index := 66#32
  let c0_i32_523 : BitVec 32 := 0#32
  let c1_i32_525 : BitVec 32 := 1#32
  let arg9 : BitVec 32 := Scf.iv c0_i32_523 c1_i32_525 k0_t2
  let v640 : Index := Scalar.indexCast arg9
  let c0_637 : Index := 0#32
  ![0, 66, v640.toNat, 0]
def k0_off23 (k0_t2 : Fin k0_t2_loop.trips) : Fin 4 → Nat :=
  let c0_641 : Index := 0#32
  let c57 : Index := 57#32
  let c0_i32_523 : BitVec 32 := 0#32
  let c1_i32_525 : BitVec 32 := 1#32
  let arg9 : BitVec 32 := Scf.iv c0_i32_523 c1_i32_525 k0_t2
  let v650 : Index := Scalar.indexCast arg9
  let c0_642 : Index := 0#32
  ![0, 57, v650.toNat, 0]
def k0_off24 (k0_t2 : Fin k0_t2_loop.trips) : Fin 4 → Nat :=
  let c0_646 : Index := 0#32
  let c48_647 : Index := 48#32
  let c0_i32_523 : BitVec 32 := 0#32
  let c1_i32_525 : BitVec 32 := 1#32
  let arg9 : BitVec 32 := Scf.iv c0_i32_523 c1_i32_525 k0_t2
  let v660 : Index := Scalar.indexCast arg9
  let c0_648 : Index := 0#32
  ![0, 48, v660.toNat, 0]
def k0_off25 (k0_t2 : Fin k0_t2_loop.trips) : Fin 4 → Nat :=
  let c0_649 : Index := 0#32
  let c0_i32_523 : BitVec 32 := 0#32
  let c1_i32_525 : BitVec 32 := 1#32
  let arg9 : BitVec 32 := Scf.iv c0_i32_523 c1_i32_525 k0_t2
  let v664 : Index := Scalar.indexCast arg9
  let c0_650 : Index := 0#32
  let c2_651 : Index := 2#32
  ![0, v664.toNat, 0, 2]
def k0_off26 (k0_t2 : Fin k0_t2_loop.trips) : Fin 3 → Nat :=
  let c0_i32_523 : BitVec 32 := 0#32
  let c1_i32_525 : BitVec 32 := 1#32
  let arg9 : BitVec 32 := Scf.iv c0_i32_523 c1_i32_525 k0_t2
  let v667 : Index := Scalar.indexCast arg9
  let c0_652 : Index := 0#32
  let c0_653 : Index := 0#32
  ![v667.toNat, 0, 0]
@[reducible] def k0_t3_loop : Scf.Loop 32 :=
  let c0_i32_533 : BitVec 32 := 0#32
  let c64_i32_534 : BitVec 32 := 64#32
  let v534 : BitVec 32 := Scalar.addi c0_i32_533 c64_i32_534
  let c1_i32_535 : BitVec 32 := 1#32
  ⟨c0_i32_533, v534, c1_i32_535⟩
def k0_off27 (k0_t3 : Fin k0_t3_loop.trips) : Fin 3 → Nat :=
  let c0_i32_533 : BitVec 32 := 0#32
  let c1_i32_535 : BitVec 32 := 1#32
  let arg9 : BitVec 32 := Scf.iv c0_i32_533 c1_i32_535 k0_t3
  let v571 : Index := Scalar.indexCast arg9
  let c0_598 : Index := 0#32
  let c0_599 : Index := 0#32
  ![v571.toNat, 0, 0]
def k0_off28 (k0_t3 : Fin k0_t3_loop.trips) (c0_i32_600 : BitVec 32) : Fin 3 → Nat :=
  let c0_i32_533 : BitVec 32 := 0#32
  let c1_i32_535 : BitVec 32 := 1#32
  let arg9 : BitVec 32 := Scf.iv c0_i32_533 c1_i32_535 k0_t3
  let v574 : BitVec 32 := Scalar.addi arg9 c0_i32_600
  let v575 : Index := Scalar.indexCast v574
  let c0_601 : Index := 0#32
  let c0_602 : Index := 0#32
  ![v575.toNat, 0, 0]
def k0_off29 (k0_t3 : Fin k0_t3_loop.trips) : Fin 4 → Nat :=
  let c0_604 : Index := 0#32
  let c38 : Index := 38#32
  let c0_i32_533 : BitVec 32 := 0#32
  let c1_i32_535 : BitVec 32 := 1#32
  let arg9 : BitVec 32 := Scf.iv c0_i32_533 c1_i32_535 k0_t3
  let v580 : Index := Scalar.indexCast arg9
  let c0_605 : Index := 0#32
  ![0, 38, v580.toNat, 0]
def k0_off30 (k0_t3 : Fin k0_t3_loop.trips) : Fin 4 → Nat :=
  let c0_610 : Index := 0#32
  let c29 : Index := 29#32
  let c0_i32_533 : BitVec 32 := 0#32
  let c1_i32_535 : BitVec 32 := 1#32
  let arg9 : BitVec 32 := Scf.iv c0_i32_533 c1_i32_535 k0_t3
  let v590 : Index := Scalar.indexCast arg9
  let c0_611 : Index := 0#32
  ![0, 29, v590.toNat, 0]
def k0_off31 (k0_t3 : Fin k0_t3_loop.trips) : Fin 4 → Nat :=
  let c0_615 : Index := 0#32
  let c20 : Index := 20#32
  let c0_i32_533 : BitVec 32 := 0#32
  let c1_i32_535 : BitVec 32 := 1#32
  let arg9 : BitVec 32 := Scf.iv c0_i32_533 c1_i32_535 k0_t3
  let v600 : Index := Scalar.indexCast arg9
  let c0_616 : Index := 0#32
  ![0, 20, v600.toNat, 0]
def k0_off32 (k0_t3 : Fin k0_t3_loop.trips) : Fin 4 → Nat :=
  let c0_620 : Index := 0#32
  let c11 : Index := 11#32
  let c0_i32_533 : BitVec 32 := 0#32
  let c1_i32_535 : BitVec 32 := 1#32
  let arg9 : BitVec 32 := Scf.iv c0_i32_533 c1_i32_535 k0_t3
  let v610 : Index := Scalar.indexCast arg9
  let c0_621 : Index := 0#32
  ![0, 11, v610.toNat, 0]
def k0_off33 (k0_t3 : Fin k0_t3_loop.trips) : Fin 4 → Nat :=
  let c0_625 : Index := 0#32
  let c2_626 : Index := 2#32
  let c0_i32_533 : BitVec 32 := 0#32
  let c1_i32_535 : BitVec 32 := 1#32
  let arg9 : BitVec 32 := Scf.iv c0_i32_533 c1_i32_535 k0_t3
  let v620 : Index := Scalar.indexCast arg9
  let c0_627 : Index := 0#32
  ![0, 2, v620.toNat, 0]
def k0_off34 (k0_t3 : Fin k0_t3_loop.trips) : Fin 4 → Nat :=
  let c0_631 : Index := 0#32
  let c74 : Index := 74#32
  let c0_i32_533 : BitVec 32 := 0#32
  let c1_i32_535 : BitVec 32 := 1#32
  let arg9 : BitVec 32 := Scf.iv c0_i32_533 c1_i32_535 k0_t3
  let v630 : Index := Scalar.indexCast arg9
  let c0_632 : Index := 0#32
  ![0, 74, v630.toNat, 0]
def k0_off35 (k0_t3 : Fin k0_t3_loop.trips) : Fin 4 → Nat :=
  let c0_636 : Index := 0#32
  let c65 : Index := 65#32
  let c0_i32_533 : BitVec 32 := 0#32
  let c1_i32_535 : BitVec 32 := 1#32
  let arg9 : BitVec 32 := Scf.iv c0_i32_533 c1_i32_535 k0_t3
  let v640 : Index := Scalar.indexCast arg9
  let c0_637 : Index := 0#32
  ![0, 65, v640.toNat, 0]
def k0_off36 (k0_t3 : Fin k0_t3_loop.trips) : Fin 4 → Nat :=
  let c0_641 : Index := 0#32
  let c56_642 : Index := 56#32
  let c0_i32_533 : BitVec 32 := 0#32
  let c1_i32_535 : BitVec 32 := 1#32
  let arg9 : BitVec 32 := Scf.iv c0_i32_533 c1_i32_535 k0_t3
  let v650 : Index := Scalar.indexCast arg9
  let c0_643 : Index := 0#32
  ![0, 56, v650.toNat, 0]
def k0_off37 (k0_t3 : Fin k0_t3_loop.trips) : Fin 4 → Nat :=
  let c0_647 : Index := 0#32
  let c47 : Index := 47#32
  let c0_i32_533 : BitVec 32 := 0#32
  let c1_i32_535 : BitVec 32 := 1#32
  let arg9 : BitVec 32 := Scf.iv c0_i32_533 c1_i32_535 k0_t3
  let v660 : Index := Scalar.indexCast arg9
  let c0_648 : Index := 0#32
  ![0, 47, v660.toNat, 0]
def k0_off38 (k0_t3 : Fin k0_t3_loop.trips) : Fin 4 → Nat :=
  let c0_649 : Index := 0#32
  let c0_i32_533 : BitVec 32 := 0#32
  let c1_i32_535 : BitVec 32 := 1#32
  let arg9 : BitVec 32 := Scf.iv c0_i32_533 c1_i32_535 k0_t3
  let v664 : Index := Scalar.indexCast arg9
  let c0_650 : Index := 0#32
  let c3_651 : Index := 3#32
  ![0, v664.toNat, 0, 3]
def k0_off39 (k0_t3 : Fin k0_t3_loop.trips) : Fin 3 → Nat :=
  let c0_i32_533 : BitVec 32 := 0#32
  let c1_i32_535 : BitVec 32 := 1#32
  let arg9 : BitVec 32 := Scf.iv c0_i32_533 c1_i32_535 k0_t3
  let v667 : Index := Scalar.indexCast arg9
  let c0_652 : Index := 0#32
  let c0_653 : Index := 0#32
  ![v667.toNat, 0, 0]
@[reducible] def k0_t4_loop : Scf.Loop 32 :=
  let c0_i32_543 : BitVec 32 := 0#32
  let c64_i32_544 : BitVec 32 := 64#32
  let v540 : BitVec 32 := Scalar.addi c0_i32_543 c64_i32_544
  let c1_i32_545 : BitVec 32 := 1#32
  ⟨c0_i32_543, v540, c1_i32_545⟩
def k0_off40 (k0_t4 : Fin k0_t4_loop.trips) : Fin 3 → Nat :=
  let c0_i32_543 : BitVec 32 := 0#32
  let c1_i32_545 : BitVec 32 := 1#32
  let arg9 : BitVec 32 := Scf.iv c0_i32_543 c1_i32_545 k0_t4
  let v571 : Index := Scalar.indexCast arg9
  let c0_598 : Index := 0#32
  let c0_599 : Index := 0#32
  ![v571.toNat, 0, 0]
def k0_off41 (k0_t4 : Fin k0_t4_loop.trips) (c0_i32_600 : BitVec 32) : Fin 3 → Nat :=
  let c0_i32_543 : BitVec 32 := 0#32
  let c1_i32_545 : BitVec 32 := 1#32
  let arg9 : BitVec 32 := Scf.iv c0_i32_543 c1_i32_545 k0_t4
  let v574 : BitVec 32 := Scalar.addi arg9 c0_i32_600
  let v575 : Index := Scalar.indexCast v574
  let c0_601 : Index := 0#32
  let c0_602 : Index := 0#32
  ![v575.toNat, 0, 0]
def k0_off42 (k0_t4 : Fin k0_t4_loop.trips) : Fin 4 → Nat :=
  let c0_604 : Index := 0#32
  let c37 : Index := 37#32
  let c0_i32_543 : BitVec 32 := 0#32
  let c1_i32_545 : BitVec 32 := 1#32
  let arg9 : BitVec 32 := Scf.iv c0_i32_543 c1_i32_545 k0_t4
  let v580 : Index := Scalar.indexCast arg9
  let c0_605 : Index := 0#32
  ![0, 37, v580.toNat, 0]
def k0_off43 (k0_t4 : Fin k0_t4_loop.trips) : Fin 4 → Nat :=
  let c0_610 : Index := 0#32
  let c28 : Index := 28#32
  let c0_i32_543 : BitVec 32 := 0#32
  let c1_i32_545 : BitVec 32 := 1#32
  let arg9 : BitVec 32 := Scf.iv c0_i32_543 c1_i32_545 k0_t4
  let v590 : Index := Scalar.indexCast arg9
  let c0_611 : Index := 0#32
  ![0, 28, v590.toNat, 0]
def k0_off44 (k0_t4 : Fin k0_t4_loop.trips) : Fin 4 → Nat :=
  let c0_615 : Index := 0#32
  let c19 : Index := 19#32
  let c0_i32_543 : BitVec 32 := 0#32
  let c1_i32_545 : BitVec 32 := 1#32
  let arg9 : BitVec 32 := Scf.iv c0_i32_543 c1_i32_545 k0_t4
  let v600 : Index := Scalar.indexCast arg9
  let c0_616 : Index := 0#32
  ![0, 19, v600.toNat, 0]
def k0_off45 (k0_t4 : Fin k0_t4_loop.trips) : Fin 4 → Nat :=
  let c0_620 : Index := 0#32
  let c10 : Index := 10#32
  let c0_i32_543 : BitVec 32 := 0#32
  let c1_i32_545 : BitVec 32 := 1#32
  let arg9 : BitVec 32 := Scf.iv c0_i32_543 c1_i32_545 k0_t4
  let v610 : Index := Scalar.indexCast arg9
  let c0_621 : Index := 0#32
  ![0, 10, v610.toNat, 0]
def k0_off46 (k0_t4 : Fin k0_t4_loop.trips) : Fin 4 → Nat :=
  let c0_625 : Index := 0#32
  let c1_626 : Index := 1#32
  let c0_i32_543 : BitVec 32 := 0#32
  let c1_i32_545 : BitVec 32 := 1#32
  let arg9 : BitVec 32 := Scf.iv c0_i32_543 c1_i32_545 k0_t4
  let v620 : Index := Scalar.indexCast arg9
  let c0_627 : Index := 0#32
  ![0, 1, v620.toNat, 0]
def k0_off47 (k0_t4 : Fin k0_t4_loop.trips) : Fin 4 → Nat :=
  let c0_631 : Index := 0#32
  let c73 : Index := 73#32
  let c0_i32_543 : BitVec 32 := 0#32
  let c1_i32_545 : BitVec 32 := 1#32
  let arg9 : BitVec 32 := Scf.iv c0_i32_543 c1_i32_545 k0_t4
  let v630 : Index := Scalar.indexCast arg9
  let c0_632 : Index := 0#32
  ![0, 73, v630.toNat, 0]
def k0_off48 (k0_t4 : Fin k0_t4_loop.trips) : Fin 4 → Nat :=
  let c0_636 : Index := 0#32
  let c64_637 : Index := 64#32
  let c0_i32_543 : BitVec 32 := 0#32
  let c1_i32_545 : BitVec 32 := 1#32
  let arg9 : BitVec 32 := Scf.iv c0_i32_543 c1_i32_545 k0_t4
  let v640 : Index := Scalar.indexCast arg9
  let c0_638 : Index := 0#32
  ![0, 64, v640.toNat, 0]
def k0_off49 (k0_t4 : Fin k0_t4_loop.trips) : Fin 4 → Nat :=
  let c0_642 : Index := 0#32
  let c55 : Index := 55#32
  let c0_i32_543 : BitVec 32 := 0#32
  let c1_i32_545 : BitVec 32 := 1#32
  let arg9 : BitVec 32 := Scf.iv c0_i32_543 c1_i32_545 k0_t4
  let v650 : Index := Scalar.indexCast arg9
  let c0_643 : Index := 0#32
  ![0, 55, v650.toNat, 0]
def k0_off50 (k0_t4 : Fin k0_t4_loop.trips) : Fin 4 → Nat :=
  let c0_647 : Index := 0#32
  let c46 : Index := 46#32
  let c0_i32_543 : BitVec 32 := 0#32
  let c1_i32_545 : BitVec 32 := 1#32
  let arg9 : BitVec 32 := Scf.iv c0_i32_543 c1_i32_545 k0_t4
  let v660 : Index := Scalar.indexCast arg9
  let c0_648 : Index := 0#32
  ![0, 46, v660.toNat, 0]
def k0_off51 (k0_t4 : Fin k0_t4_loop.trips) : Fin 4 → Nat :=
  let c0_649 : Index := 0#32
  let c0_i32_543 : BitVec 32 := 0#32
  let c1_i32_545 : BitVec 32 := 1#32
  let arg9 : BitVec 32 := Scf.iv c0_i32_543 c1_i32_545 k0_t4
  let v664 : Index := Scalar.indexCast arg9
  let c0_650 : Index := 0#32
  let c4_651 : Index := 4#32
  ![0, v664.toNat, 0, 4]
def k0_off52 (k0_t4 : Fin k0_t4_loop.trips) : Fin 3 → Nat :=
  let c0_i32_543 : BitVec 32 := 0#32
  let c1_i32_545 : BitVec 32 := 1#32
  let arg9 : BitVec 32 := Scf.iv c0_i32_543 c1_i32_545 k0_t4
  let v667 : Index := Scalar.indexCast arg9
  let c0_652 : Index := 0#32
  let c0_653 : Index := 0#32
  ![v667.toNat, 0, 0]
@[reducible] def k0_t5_loop : Scf.Loop 32 :=
  let c0_i32_553 : BitVec 32 := 0#32
  let c64_i32_554 : BitVec 32 := 64#32
  let v546 : BitVec 32 := Scalar.addi c0_i32_553 c64_i32_554
  let c1_i32_555 : BitVec 32 := 1#32
  ⟨c0_i32_553, v546, c1_i32_555⟩
def k0_off53 (k0_t5 : Fin k0_t5_loop.trips) : Fin 3 → Nat :=
  let c0_i32_553 : BitVec 32 := 0#32
  let c1_i32_555 : BitVec 32 := 1#32
  let arg9 : BitVec 32 := Scf.iv c0_i32_553 c1_i32_555 k0_t5
  let v571 : Index := Scalar.indexCast arg9
  let c0_598 : Index := 0#32
  let c0_599 : Index := 0#32
  ![v571.toNat, 0, 0]
def k0_off54 (k0_t5 : Fin k0_t5_loop.trips) (c0_i32_600 : BitVec 32) : Fin 3 → Nat :=
  let c0_i32_553 : BitVec 32 := 0#32
  let c1_i32_555 : BitVec 32 := 1#32
  let arg9 : BitVec 32 := Scf.iv c0_i32_553 c1_i32_555 k0_t5
  let v574 : BitVec 32 := Scalar.addi arg9 c0_i32_600
  let v575 : Index := Scalar.indexCast v574
  let c0_601 : Index := 0#32
  let c0_602 : Index := 0#32
  ![v575.toNat, 0, 0]
def k0_off55 (k0_t5 : Fin k0_t5_loop.trips) : Fin 4 → Nat :=
  let c0_604 : Index := 0#32
  let c36 : Index := 36#32
  let c0_i32_553 : BitVec 32 := 0#32
  let c1_i32_555 : BitVec 32 := 1#32
  let arg9 : BitVec 32 := Scf.iv c0_i32_553 c1_i32_555 k0_t5
  let v580 : Index := Scalar.indexCast arg9
  let c0_605 : Index := 0#32
  ![0, 36, v580.toNat, 0]
def k0_off56 (k0_t5 : Fin k0_t5_loop.trips) : Fin 4 → Nat :=
  let c0_610 : Index := 0#32
  let c27 : Index := 27#32
  let c0_i32_553 : BitVec 32 := 0#32
  let c1_i32_555 : BitVec 32 := 1#32
  let arg9 : BitVec 32 := Scf.iv c0_i32_553 c1_i32_555 k0_t5
  let v590 : Index := Scalar.indexCast arg9
  let c0_611 : Index := 0#32
  ![0, 27, v590.toNat, 0]
def k0_off57 (k0_t5 : Fin k0_t5_loop.trips) : Fin 4 → Nat :=
  let c0_615 : Index := 0#32
  let c18 : Index := 18#32
  let c0_i32_553 : BitVec 32 := 0#32
  let c1_i32_555 : BitVec 32 := 1#32
  let arg9 : BitVec 32 := Scf.iv c0_i32_553 c1_i32_555 k0_t5
  let v600 : Index := Scalar.indexCast arg9
  let c0_616 : Index := 0#32
  ![0, 18, v600.toNat, 0]
def k0_off58 (k0_t5 : Fin k0_t5_loop.trips) : Fin 4 → Nat :=
  let c0_620 : Index := 0#32
  let c9 : Index := 9#32
  let c0_i32_553 : BitVec 32 := 0#32
  let c1_i32_555 : BitVec 32 := 1#32
  let arg9 : BitVec 32 := Scf.iv c0_i32_553 c1_i32_555 k0_t5
  let v610 : Index := Scalar.indexCast arg9
  let c0_621 : Index := 0#32
  ![0, 9, v610.toNat, 0]
def k0_off59 (k0_t5 : Fin k0_t5_loop.trips) : Fin 4 → Nat :=
  let c0_625 : Index := 0#32
  let c0_626 : Index := 0#32
  let c0_i32_553 : BitVec 32 := 0#32
  let c1_i32_555 : BitVec 32 := 1#32
  let arg9 : BitVec 32 := Scf.iv c0_i32_553 c1_i32_555 k0_t5
  let v620 : Index := Scalar.indexCast arg9
  let c0_627 : Index := 0#32
  ![0, 0, v620.toNat, 0]
def k0_off60 (k0_t5 : Fin k0_t5_loop.trips) : Fin 4 → Nat :=
  let c0_631 : Index := 0#32
  let c72 : Index := 72#32
  let c0_i32_553 : BitVec 32 := 0#32
  let c1_i32_555 : BitVec 32 := 1#32
  let arg9 : BitVec 32 := Scf.iv c0_i32_553 c1_i32_555 k0_t5
  let v630 : Index := Scalar.indexCast arg9
  let c0_632 : Index := 0#32
  ![0, 72, v630.toNat, 0]
def k0_off61 (k0_t5 : Fin k0_t5_loop.trips) : Fin 4 → Nat :=
  let c0_636 : Index := 0#32
  let c63 : Index := 63#32
  let c0_i32_553 : BitVec 32 := 0#32
  let c1_i32_555 : BitVec 32 := 1#32
  let arg9 : BitVec 32 := Scf.iv c0_i32_553 c1_i32_555 k0_t5
  let v640 : Index := Scalar.indexCast arg9
  let c0_637 : Index := 0#32
  ![0, 63, v640.toNat, 0]
def k0_off62 (k0_t5 : Fin k0_t5_loop.trips) : Fin 4 → Nat :=
  let c0_641 : Index := 0#32
  let c54 : Index := 54#32
  let c0_i32_553 : BitVec 32 := 0#32
  let c1_i32_555 : BitVec 32 := 1#32
  let arg9 : BitVec 32 := Scf.iv c0_i32_553 c1_i32_555 k0_t5
  let v650 : Index := Scalar.indexCast arg9
  let c0_642 : Index := 0#32
  ![0, 54, v650.toNat, 0]
def k0_off63 (k0_t5 : Fin k0_t5_loop.trips) : Fin 4 → Nat :=
  let c0_646 : Index := 0#32
  let c45 : Index := 45#32
  let c0_i32_553 : BitVec 32 := 0#32
  let c1_i32_555 : BitVec 32 := 1#32
  let arg9 : BitVec 32 := Scf.iv c0_i32_553 c1_i32_555 k0_t5
  let v660 : Index := Scalar.indexCast arg9
  let c0_647 : Index := 0#32
  ![0, 45, v660.toNat, 0]
def k0_off64 (k0_t5 : Fin k0_t5_loop.trips) : Fin 4 → Nat :=
  let c0_648 : Index := 0#32
  let c0_i32_553 : BitVec 32 := 0#32
  let c1_i32_555 : BitVec 32 := 1#32
  let arg9 : BitVec 32 := Scf.iv c0_i32_553 c1_i32_555 k0_t5
  let v664 : Index := Scalar.indexCast arg9
  let c0_649 : Index := 0#32
  let c5_650 : Index := 5#32
  ![0, v664.toNat, 0, 5]
def k0_off65 (k0_t5 : Fin k0_t5_loop.trips) : Fin 3 → Nat :=
  let c0_i32_553 : BitVec 32 := 0#32
  let c1_i32_555 : BitVec 32 := 1#32
  let arg9 : BitVec 32 := Scf.iv c0_i32_553 c1_i32_555 k0_t5
  let v667 : Index := Scalar.indexCast arg9
  let c0_651 : Index := 0#32
  let c0_652 : Index := 0#32
  ![v667.toNat, 0, 0]
@[reducible] def k0_t6_loop : Scf.Loop 32 :=
  let c0_i32_563 : BitVec 32 := 0#32
  let c64_i32_564 : BitVec 32 := 64#32
  let v552 : BitVec 32 := Scalar.addi c0_i32_563 c64_i32_564
  let c1_i32_565 : BitVec 32 := 1#32
  ⟨c0_i32_563, v552, c1_i32_565⟩
def k0_off66 (k0_t6 : Fin k0_t6_loop.trips) : Fin 3 → Nat :=
  let c0_i32_563 : BitVec 32 := 0#32
  let c1_i32_565 : BitVec 32 := 1#32
  let arg9 : BitVec 32 := Scf.iv c0_i32_563 c1_i32_565 k0_t6
  let v571 : Index := Scalar.indexCast arg9
  let c0_598 : Index := 0#32
  let c0_599 : Index := 0#32
  ![v571.toNat, 0, 0]
def k0_off67 (k0_t6 : Fin k0_t6_loop.trips) (c0_i32_600 : BitVec 32) : Fin 3 → Nat :=
  let c0_i32_563 : BitVec 32 := 0#32
  let c1_i32_565 : BitVec 32 := 1#32
  let arg9 : BitVec 32 := Scf.iv c0_i32_563 c1_i32_565 k0_t6
  let v574 : BitVec 32 := Scalar.addi arg9 c0_i32_600
  let v575 : Index := Scalar.indexCast v574
  let c0_601 : Index := 0#32
  let c0_602 : Index := 0#32
  ![v575.toNat, 0, 0]
def k0_off68 (k0_t6 : Fin k0_t6_loop.trips) : Fin 4 → Nat :=
  let c0_604 : Index := 0#32
  let c35 : Index := 35#32
  let c0_i32_563 : BitVec 32 := 0#32
  let c1_i32_565 : BitVec 32 := 1#32
  let arg9 : BitVec 32 := Scf.iv c0_i32_563 c1_i32_565 k0_t6
  let v580 : Index := Scalar.indexCast arg9
  let c0_605 : Index := 0#32
  ![0, 35, v580.toNat, 0]
def k0_off69 (k0_t6 : Fin k0_t6_loop.trips) : Fin 4 → Nat :=
  let c0_610 : Index := 0#32
  let c26 : Index := 26#32
  let c0_i32_563 : BitVec 32 := 0#32
  let c1_i32_565 : BitVec 32 := 1#32
  let arg9 : BitVec 32 := Scf.iv c0_i32_563 c1_i32_565 k0_t6
  let v590 : Index := Scalar.indexCast arg9
  let c0_611 : Index := 0#32
  ![0, 26, v590.toNat, 0]
def k0_off70 (k0_t6 : Fin k0_t6_loop.trips) : Fin 4 → Nat :=
  let c0_615 : Index := 0#32
  let c17 : Index := 17#32
  let c0_i32_563 : BitVec 32 := 0#32
  let c1_i32_565 : BitVec 32 := 1#32
  let arg9 : BitVec 32 := Scf.iv c0_i32_563 c1_i32_565 k0_t6
  let v600 : Index := Scalar.indexCast arg9
  let c0_616 : Index := 0#32
  ![0, 17, v600.toNat, 0]
def k0_off71 (k0_t6 : Fin k0_t6_loop.trips) : Fin 4 → Nat :=
  let c0_620 : Index := 0#32
  let c8_621 : Index := 8#32
  let c0_i32_563 : BitVec 32 := 0#32
  let c1_i32_565 : BitVec 32 := 1#32
  let arg9 : BitVec 32 := Scf.iv c0_i32_563 c1_i32_565 k0_t6
  let v610 : Index := Scalar.indexCast arg9
  let c0_622 : Index := 0#32
  ![0, 8, v610.toNat, 0]
def k0_off72 (k0_t6 : Fin k0_t6_loop.trips) : Fin 4 → Nat :=
  let c0_626 : Index := 0#32
  let c80 : Index := 80#32
  let c0_i32_563 : BitVec 32 := 0#32
  let c1_i32_565 : BitVec 32 := 1#32
  let arg9 : BitVec 32 := Scf.iv c0_i32_563 c1_i32_565 k0_t6
  let v620 : Index := Scalar.indexCast arg9
  let c0_627 : Index := 0#32
  ![0, 80, v620.toNat, 0]
def k0_off73 (k0_t6 : Fin k0_t6_loop.trips) : Fin 4 → Nat :=
  let c0_631 : Index := 0#32
  let c71 : Index := 71#32
  let c0_i32_563 : BitVec 32 := 0#32
  let c1_i32_565 : BitVec 32 := 1#32
  let arg9 : BitVec 32 := Scf.iv c0_i32_563 c1_i32_565 k0_t6
  let v630 : Index := Scalar.indexCast arg9
  let c0_632 : Index := 0#32
  ![0, 71, v630.toNat, 0]
def k0_off74 (k0_t6 : Fin k0_t6_loop.trips) : Fin 4 → Nat :=
  let c0_636 : Index := 0#32
  let c62 : Index := 62#32
  let c0_i32_563 : BitVec 32 := 0#32
  let c1_i32_565 : BitVec 32 := 1#32
  let arg9 : BitVec 32 := Scf.iv c0_i32_563 c1_i32_565 k0_t6
  let v640 : Index := Scalar.indexCast arg9
  let c0_637 : Index := 0#32
  ![0, 62, v640.toNat, 0]
def k0_off75 (k0_t6 : Fin k0_t6_loop.trips) : Fin 4 → Nat :=
  let c0_641 : Index := 0#32
  let c53 : Index := 53#32
  let c0_i32_563 : BitVec 32 := 0#32
  let c1_i32_565 : BitVec 32 := 1#32
  let arg9 : BitVec 32 := Scf.iv c0_i32_563 c1_i32_565 k0_t6
  let v650 : Index := Scalar.indexCast arg9
  let c0_642 : Index := 0#32
  ![0, 53, v650.toNat, 0]
def k0_off76 (k0_t6 : Fin k0_t6_loop.trips) : Fin 4 → Nat :=
  let c0_646 : Index := 0#32
  let c44 : Index := 44#32
  let c0_i32_563 : BitVec 32 := 0#32
  let c1_i32_565 : BitVec 32 := 1#32
  let arg9 : BitVec 32 := Scf.iv c0_i32_563 c1_i32_565 k0_t6
  let v660 : Index := Scalar.indexCast arg9
  let c0_647 : Index := 0#32
  ![0, 44, v660.toNat, 0]
def k0_off77 (k0_t6 : Fin k0_t6_loop.trips) : Fin 4 → Nat :=
  let c0_648 : Index := 0#32
  let c0_i32_563 : BitVec 32 := 0#32
  let c1_i32_565 : BitVec 32 := 1#32
  let arg9 : BitVec 32 := Scf.iv c0_i32_563 c1_i32_565 k0_t6
  let v664 : Index := Scalar.indexCast arg9
  let c0_649 : Index := 0#32
  let c6_650 : Index := 6#32
  ![0, v664.toNat, 0, 6]
def k0_off78 (k0_t6 : Fin k0_t6_loop.trips) : Fin 3 → Nat :=
  let c0_i32_563 : BitVec 32 := 0#32
  let c1_i32_565 : BitVec 32 := 1#32
  let arg9 : BitVec 32 := Scf.iv c0_i32_563 c1_i32_565 k0_t6
  let v667 : Index := Scalar.indexCast arg9
  let c0_651 : Index := 0#32
  let c0_652 : Index := 0#32
  ![v667.toNat, 0, 0]
@[reducible] def k0_t7_loop : Scf.Loop 32 :=
  let c0_i32_573 : BitVec 32 := 0#32
  let c64_i32_574 : BitVec 32 := 64#32
  let v558 : BitVec 32 := Scalar.addi c0_i32_573 c64_i32_574
  let c1_i32_575 : BitVec 32 := 1#32
  ⟨c0_i32_573, v558, c1_i32_575⟩
def k0_off79 (k0_t7 : Fin k0_t7_loop.trips) : Fin 3 → Nat :=
  let c0_i32_573 : BitVec 32 := 0#32
  let c1_i32_575 : BitVec 32 := 1#32
  let arg9 : BitVec 32 := Scf.iv c0_i32_573 c1_i32_575 k0_t7
  let v571 : Index := Scalar.indexCast arg9
  let c0_598 : Index := 0#32
  let c0_599 : Index := 0#32
  ![v571.toNat, 0, 0]
def k0_off80 (k0_t7 : Fin k0_t7_loop.trips) (c0_i32_600 : BitVec 32) : Fin 3 → Nat :=
  let c0_i32_573 : BitVec 32 := 0#32
  let c1_i32_575 : BitVec 32 := 1#32
  let arg9 : BitVec 32 := Scf.iv c0_i32_573 c1_i32_575 k0_t7
  let v574 : BitVec 32 := Scalar.addi arg9 c0_i32_600
  let v575 : Index := Scalar.indexCast v574
  let c0_601 : Index := 0#32
  let c0_602 : Index := 0#32
  ![v575.toNat, 0, 0]
def k0_off81 (k0_t7 : Fin k0_t7_loop.trips) : Fin 4 → Nat :=
  let c0_604 : Index := 0#32
  let c34 : Index := 34#32
  let c0_i32_573 : BitVec 32 := 0#32
  let c1_i32_575 : BitVec 32 := 1#32
  let arg9 : BitVec 32 := Scf.iv c0_i32_573 c1_i32_575 k0_t7
  let v580 : Index := Scalar.indexCast arg9
  let c0_605 : Index := 0#32
  ![0, 34, v580.toNat, 0]
def k0_off82 (k0_t7 : Fin k0_t7_loop.trips) : Fin 4 → Nat :=
  let c0_610 : Index := 0#32
  let c25 : Index := 25#32
  let c0_i32_573 : BitVec 32 := 0#32
  let c1_i32_575 : BitVec 32 := 1#32
  let arg9 : BitVec 32 := Scf.iv c0_i32_573 c1_i32_575 k0_t7
  let v590 : Index := Scalar.indexCast arg9
  let c0_611 : Index := 0#32
  ![0, 25, v590.toNat, 0]
def k0_off83 (k0_t7 : Fin k0_t7_loop.trips) : Fin 4 → Nat :=
  let c0_615 : Index := 0#32
  let c16_616 : Index := 16#32
  let c0_i32_573 : BitVec 32 := 0#32
  let c1_i32_575 : BitVec 32 := 1#32
  let arg9 : BitVec 32 := Scf.iv c0_i32_573 c1_i32_575 k0_t7
  let v600 : Index := Scalar.indexCast arg9
  let c0_617 : Index := 0#32
  ![0, 16, v600.toNat, 0]
def k0_off84 (k0_t7 : Fin k0_t7_loop.trips) : Fin 4 → Nat :=
  let c0_621 : Index := 0#32
  let c7_622 : Index := 7#32
  let c0_i32_573 : BitVec 32 := 0#32
  let c1_i32_575 : BitVec 32 := 1#32
  let arg9 : BitVec 32 := Scf.iv c0_i32_573 c1_i32_575 k0_t7
  let v610 : Index := Scalar.indexCast arg9
  let c0_623 : Index := 0#32
  ![0, 7, v610.toNat, 0]
def k0_off85 (k0_t7 : Fin k0_t7_loop.trips) : Fin 4 → Nat :=
  let c0_627 : Index := 0#32
  let c79 : Index := 79#32
  let c0_i32_573 : BitVec 32 := 0#32
  let c1_i32_575 : BitVec 32 := 1#32
  let arg9 : BitVec 32 := Scf.iv c0_i32_573 c1_i32_575 k0_t7
  let v620 : Index := Scalar.indexCast arg9
  let c0_628 : Index := 0#32
  ![0, 79, v620.toNat, 0]
def k0_off86 (k0_t7 : Fin k0_t7_loop.trips) : Fin 4 → Nat :=
  let c0_632 : Index := 0#32
  let c70 : Index := 70#32
  let c0_i32_573 : BitVec 32 := 0#32
  let c1_i32_575 : BitVec 32 := 1#32
  let arg9 : BitVec 32 := Scf.iv c0_i32_573 c1_i32_575 k0_t7
  let v630 : Index := Scalar.indexCast arg9
  let c0_633 : Index := 0#32
  ![0, 70, v630.toNat, 0]
def k0_off87 (k0_t7 : Fin k0_t7_loop.trips) : Fin 4 → Nat :=
  let c0_637 : Index := 0#32
  let c61 : Index := 61#32
  let c0_i32_573 : BitVec 32 := 0#32
  let c1_i32_575 : BitVec 32 := 1#32
  let arg9 : BitVec 32 := Scf.iv c0_i32_573 c1_i32_575 k0_t7
  let v640 : Index := Scalar.indexCast arg9
  let c0_638 : Index := 0#32
  ![0, 61, v640.toNat, 0]
def k0_off88 (k0_t7 : Fin k0_t7_loop.trips) : Fin 4 → Nat :=
  let c0_642 : Index := 0#32
  let c52 : Index := 52#32
  let c0_i32_573 : BitVec 32 := 0#32
  let c1_i32_575 : BitVec 32 := 1#32
  let arg9 : BitVec 32 := Scf.iv c0_i32_573 c1_i32_575 k0_t7
  let v650 : Index := Scalar.indexCast arg9
  let c0_643 : Index := 0#32
  ![0, 52, v650.toNat, 0]
def k0_off89 (k0_t7 : Fin k0_t7_loop.trips) : Fin 4 → Nat :=
  let c0_647 : Index := 0#32
  let c43 : Index := 43#32
  let c0_i32_573 : BitVec 32 := 0#32
  let c1_i32_575 : BitVec 32 := 1#32
  let arg9 : BitVec 32 := Scf.iv c0_i32_573 c1_i32_575 k0_t7
  let v660 : Index := Scalar.indexCast arg9
  let c0_648 : Index := 0#32
  ![0, 43, v660.toNat, 0]
def k0_off90 (k0_t7 : Fin k0_t7_loop.trips) : Fin 4 → Nat :=
  let c0_649 : Index := 0#32
  let c0_i32_573 : BitVec 32 := 0#32
  let c1_i32_575 : BitVec 32 := 1#32
  let arg9 : BitVec 32 := Scf.iv c0_i32_573 c1_i32_575 k0_t7
  let v664 : Index := Scalar.indexCast arg9
  let c0_650 : Index := 0#32
  let c7_651 : Index := 7#32
  ![0, v664.toNat, 0, 7]
def k0_off91 (k0_t7 : Fin k0_t7_loop.trips) : Fin 3 → Nat :=
  let c0_i32_573 : BitVec 32 := 0#32
  let c1_i32_575 : BitVec 32 := 1#32
  let arg9 : BitVec 32 := Scf.iv c0_i32_573 c1_i32_575 k0_t7
  let v667 : Index := Scalar.indexCast arg9
  let c0_652 : Index := 0#32
  let c0_653 : Index := 0#32
  ![v667.toNat, 0, 0]
@[reducible] def k0_t8_loop : Scf.Loop 32 :=
  let c0_i32_583 : BitVec 32 := 0#32
  let c64_i32_584 : BitVec 32 := 64#32
  let v564 : BitVec 32 := Scalar.addi c0_i32_583 c64_i32_584
  let c1_i32_585 : BitVec 32 := 1#32
  ⟨c0_i32_583, v564, c1_i32_585⟩
def k0_off92 (k0_t8 : Fin k0_t8_loop.trips) : Fin 3 → Nat :=
  let c0_i32_583 : BitVec 32 := 0#32
  let c1_i32_585 : BitVec 32 := 1#32
  let arg9 : BitVec 32 := Scf.iv c0_i32_583 c1_i32_585 k0_t8
  let v571 : Index := Scalar.indexCast arg9
  let c0_598 : Index := 0#32
  let c0_599 : Index := 0#32
  ![v571.toNat, 0, 0]
def k0_off93 (k0_t8 : Fin k0_t8_loop.trips) (c0_i32_600 : BitVec 32) : Fin 3 → Nat :=
  let c0_i32_583 : BitVec 32 := 0#32
  let c1_i32_585 : BitVec 32 := 1#32
  let arg9 : BitVec 32 := Scf.iv c0_i32_583 c1_i32_585 k0_t8
  let v574 : BitVec 32 := Scalar.addi arg9 c0_i32_600
  let v575 : Index := Scalar.indexCast v574
  let c0_601 : Index := 0#32
  let c0_602 : Index := 0#32
  ![v575.toNat, 0, 0]
def k0_off94 (k0_t8 : Fin k0_t8_loop.trips) : Fin 4 → Nat :=
  let c0_604 : Index := 0#32
  let c33 : Index := 33#32
  let c0_i32_583 : BitVec 32 := 0#32
  let c1_i32_585 : BitVec 32 := 1#32
  let arg9 : BitVec 32 := Scf.iv c0_i32_583 c1_i32_585 k0_t8
  let v580 : Index := Scalar.indexCast arg9
  let c0_605 : Index := 0#32
  ![0, 33, v580.toNat, 0]
def k0_off95 (k0_t8 : Fin k0_t8_loop.trips) : Fin 4 → Nat :=
  let c0_610 : Index := 0#32
  let c24_611 : Index := 24#32
  let c0_i32_583 : BitVec 32 := 0#32
  let c1_i32_585 : BitVec 32 := 1#32
  let arg9 : BitVec 32 := Scf.iv c0_i32_583 c1_i32_585 k0_t8
  let v590 : Index := Scalar.indexCast arg9
  let c0_612 : Index := 0#32
  ![0, 24, v590.toNat, 0]
def k0_off96 (k0_t8 : Fin k0_t8_loop.trips) : Fin 4 → Nat :=
  let c0_616 : Index := 0#32
  let c15 : Index := 15#32
  let c0_i32_583 : BitVec 32 := 0#32
  let c1_i32_585 : BitVec 32 := 1#32
  let arg9 : BitVec 32 := Scf.iv c0_i32_583 c1_i32_585 k0_t8
  let v600 : Index := Scalar.indexCast arg9
  let c0_617 : Index := 0#32
  ![0, 15, v600.toNat, 0]
def k0_off97 (k0_t8 : Fin k0_t8_loop.trips) : Fin 4 → Nat :=
  let c0_621 : Index := 0#32
  let c6_622 : Index := 6#32
  let c0_i32_583 : BitVec 32 := 0#32
  let c1_i32_585 : BitVec 32 := 1#32
  let arg9 : BitVec 32 := Scf.iv c0_i32_583 c1_i32_585 k0_t8
  let v610 : Index := Scalar.indexCast arg9
  let c0_623 : Index := 0#32
  ![0, 6, v610.toNat, 0]
def k0_off98 (k0_t8 : Fin k0_t8_loop.trips) : Fin 4 → Nat :=
  let c0_627 : Index := 0#32
  let c78 : Index := 78#32
  let c0_i32_583 : BitVec 32 := 0#32
  let c1_i32_585 : BitVec 32 := 1#32
  let arg9 : BitVec 32 := Scf.iv c0_i32_583 c1_i32_585 k0_t8
  let v620 : Index := Scalar.indexCast arg9
  let c0_628 : Index := 0#32
  ![0, 78, v620.toNat, 0]
def k0_off99 (k0_t8 : Fin k0_t8_loop.trips) : Fin 4 → Nat :=
  let c0_632 : Index := 0#32
  let c69 : Index := 69#32
  let c0_i32_583 : BitVec 32 := 0#32
  let c1_i32_585 : BitVec 32 := 1#32
  let arg9 : BitVec 32 := Scf.iv c0_i32_583 c1_i32_585 k0_t8
  let v630 : Index := Scalar.indexCast arg9
  let c0_633 : Index := 0#32
  ![0, 69, v630.toNat, 0]
def k0_off100 (k0_t8 : Fin k0_t8_loop.trips) : Fin 4 → Nat :=
  let c0_637 : Index := 0#32
  let c60 : Index := 60#32
  let c0_i32_583 : BitVec 32 := 0#32
  let c1_i32_585 : BitVec 32 := 1#32
  let arg9 : BitVec 32 := Scf.iv c0_i32_583 c1_i32_585 k0_t8
  let v640 : Index := Scalar.indexCast arg9
  let c0_638 : Index := 0#32
  ![0, 60, v640.toNat, 0]
def k0_off101 (k0_t8 : Fin k0_t8_loop.trips) : Fin 4 → Nat :=
  let c0_642 : Index := 0#32
  let c51 : Index := 51#32
  let c0_i32_583 : BitVec 32 := 0#32
  let c1_i32_585 : BitVec 32 := 1#32
  let arg9 : BitVec 32 := Scf.iv c0_i32_583 c1_i32_585 k0_t8
  let v650 : Index := Scalar.indexCast arg9
  let c0_643 : Index := 0#32
  ![0, 51, v650.toNat, 0]
def k0_off102 (k0_t8 : Fin k0_t8_loop.trips) : Fin 4 → Nat :=
  let c0_647 : Index := 0#32
  let c42 : Index := 42#32
  let c0_i32_583 : BitVec 32 := 0#32
  let c1_i32_585 : BitVec 32 := 1#32
  let arg9 : BitVec 32 := Scf.iv c0_i32_583 c1_i32_585 k0_t8
  let v660 : Index := Scalar.indexCast arg9
  let c0_648 : Index := 0#32
  ![0, 42, v660.toNat, 0]
def k0_off103 (k0_t8 : Fin k0_t8_loop.trips) : Fin 4 → Nat :=
  let c0_649 : Index := 0#32
  let c0_i32_583 : BitVec 32 := 0#32
  let c1_i32_585 : BitVec 32 := 1#32
  let arg9 : BitVec 32 := Scf.iv c0_i32_583 c1_i32_585 k0_t8
  let v664 : Index := Scalar.indexCast arg9
  let c0_650 : Index := 0#32
  let c8_651 : Index := 8#32
  ![0, v664.toNat, 0, 8]
def k0_off104 (k0_t8 : Fin k0_t8_loop.trips) : Fin 3 → Nat :=
  let c0_i32_583 : BitVec 32 := 0#32
  let c1_i32_585 : BitVec 32 := 1#32
  let arg9 : BitVec 32 := Scf.iv c0_i32_583 c1_i32_585 k0_t8
  let v667 : Index := Scalar.indexCast arg9
  let c0_652 : Index := 0#32
  let c0_653 : Index := 0#32
  ![v667.toNat, 0, 0]
@[reducible] def k0_t9_loop : Scf.Loop 32 :=
  let c0_i32_594 : BitVec 32 := 0#32
  let c64_i32_595 : BitVec 32 := 64#32
  let v570 : BitVec 32 := Scalar.addi c0_i32_594 c64_i32_595
  let c1_i32_596 : BitVec 32 := 1#32
  ⟨c0_i32_594, v570, c1_i32_596⟩
def k0_off105 (k0_t9 : Fin k0_t9_loop.trips) : Fin 3 → Nat :=
  let c0_i32_594 : BitVec 32 := 0#32
  let c1_i32_596 : BitVec 32 := 1#32
  let arg9 : BitVec 32 := Scf.iv c0_i32_594 c1_i32_596 k0_t9
  let v571 : Index := Scalar.indexCast arg9
  let c0_598 : Index := 0#32
  let c0_599 : Index := 0#32
  ![v571.toNat, 0, 0]
def k0_off106 (k0_t9 : Fin k0_t9_loop.trips) (c0_i32_600 : BitVec 32) : Fin 3 → Nat :=
  let c0_i32_594 : BitVec 32 := 0#32
  let c1_i32_596 : BitVec 32 := 1#32
  let arg9 : BitVec 32 := Scf.iv c0_i32_594 c1_i32_596 k0_t9
  let v574 : BitVec 32 := Scalar.addi arg9 c0_i32_600
  let v575 : Index := Scalar.indexCast v574
  let c0_601 : Index := 0#32
  let c0_602 : Index := 0#32
  ![v575.toNat, 0, 0]
def k0_off107 (k0_t9 : Fin k0_t9_loop.trips) : Fin 4 → Nat :=
  let c0_604 : Index := 0#32
  let c32_605 : Index := 32#32
  let c0_i32_594 : BitVec 32 := 0#32
  let c1_i32_596 : BitVec 32 := 1#32
  let arg9 : BitVec 32 := Scf.iv c0_i32_594 c1_i32_596 k0_t9
  let v580 : Index := Scalar.indexCast arg9
  let c0_606 : Index := 0#32
  ![0, 32, v580.toNat, 0]
def k0_off108 (k0_t9 : Fin k0_t9_loop.trips) : Fin 4 → Nat :=
  let c0_611 : Index := 0#32
  let c23 : Index := 23#32
  let c0_i32_594 : BitVec 32 := 0#32
  let c1_i32_596 : BitVec 32 := 1#32
  let arg9 : BitVec 32 := Scf.iv c0_i32_594 c1_i32_596 k0_t9
  let v590 : Index := Scalar.indexCast arg9
  let c0_612 : Index := 0#32
  ![0, 23, v590.toNat, 0]
def k0_off109 (k0_t9 : Fin k0_t9_loop.trips) : Fin 4 → Nat :=
  let c0_616 : Index := 0#32
  let c14 : Index := 14#32
  let c0_i32_594 : BitVec 32 := 0#32
  let c1_i32_596 : BitVec 32 := 1#32
  let arg9 : BitVec 32 := Scf.iv c0_i32_594 c1_i32_596 k0_t9
  let v600 : Index := Scalar.indexCast arg9
  let c0_617 : Index := 0#32
  ![0, 14, v600.toNat, 0]
def k0_off110 (k0_t9 : Fin k0_t9_loop.trips) : Fin 4 → Nat :=
  let c0_621 : Index := 0#32
  let c5_622 : Index := 5#32
  let c0_i32_594 : BitVec 32 := 0#32
  let c1_i32_596 : BitVec 32 := 1#32
  let arg9 : BitVec 32 := Scf.iv c0_i32_594 c1_i32_596 k0_t9
  let v610 : Index := Scalar.indexCast arg9
  let c0_623 : Index := 0#32
  ![0, 5, v610.toNat, 0]
def k0_off111 (k0_t9 : Fin k0_t9_loop.trips) : Fin 4 → Nat :=
  let c0_627 : Index := 0#32
  let c77 : Index := 77#32
  let c0_i32_594 : BitVec 32 := 0#32
  let c1_i32_596 : BitVec 32 := 1#32
  let arg9 : BitVec 32 := Scf.iv c0_i32_594 c1_i32_596 k0_t9
  let v620 : Index := Scalar.indexCast arg9
  let c0_628 : Index := 0#32
  ![0, 77, v620.toNat, 0]
def k0_off112 (k0_t9 : Fin k0_t9_loop.trips) : Fin 4 → Nat :=
  let c0_632 : Index := 0#32
  let c68 : Index := 68#32
  let c0_i32_594 : BitVec 32 := 0#32
  let c1_i32_596 : BitVec 32 := 1#32
  let arg9 : BitVec 32 := Scf.iv c0_i32_594 c1_i32_596 k0_t9
  let v630 : Index := Scalar.indexCast arg9
  let c0_633 : Index := 0#32
  ![0, 68, v630.toNat, 0]
def k0_off113 (k0_t9 : Fin k0_t9_loop.trips) : Fin 4 → Nat :=
  let c0_637 : Index := 0#32
  let c59 : Index := 59#32
  let c0_i32_594 : BitVec 32 := 0#32
  let c1_i32_596 : BitVec 32 := 1#32
  let arg9 : BitVec 32 := Scf.iv c0_i32_594 c1_i32_596 k0_t9
  let v640 : Index := Scalar.indexCast arg9
  let c0_638 : Index := 0#32
  ![0, 59, v640.toNat, 0]
def k0_off114 (k0_t9 : Fin k0_t9_loop.trips) : Fin 4 → Nat :=
  let c0_642 : Index := 0#32
  let c50 : Index := 50#32
  let c0_i32_594 : BitVec 32 := 0#32
  let c1_i32_596 : BitVec 32 := 1#32
  let arg9 : BitVec 32 := Scf.iv c0_i32_594 c1_i32_596 k0_t9
  let v650 : Index := Scalar.indexCast arg9
  let c0_643 : Index := 0#32
  ![0, 50, v650.toNat, 0]
def k0_off115 (k0_t9 : Fin k0_t9_loop.trips) : Fin 4 → Nat :=
  let c0_647 : Index := 0#32
  let c41 : Index := 41#32
  let c0_i32_594 : BitVec 32 := 0#32
  let c1_i32_596 : BitVec 32 := 1#32
  let arg9 : BitVec 32 := Scf.iv c0_i32_594 c1_i32_596 k0_t9
  let v660 : Index := Scalar.indexCast arg9
  let c0_648 : Index := 0#32
  ![0, 41, v660.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x64x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64x264 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x64x264 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x81x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "inv" => some ((81⁻¹ : ℝ) : EReal)
  | _ => none
-- ==== ReferenceIdeal.lean ====
abbrev S8x64x192x256 : Shape := ⟨4, ![8, 64, 192, 256]⟩
abbrev S_ : Shape := ⟨0, ![]⟩
abbrev S8x64x200x264 : Shape := ⟨4, ![8, 64, 200, 264]⟩
abbrev S8x192x256 : Shape := ⟨3, ![8, 192, 256]⟩
abbrev S8x1x192x256 : Shape := ⟨4, ![8, 1, 192, 256]⟩
abbrev S8x9x192x256 : Shape := ⟨4, ![8, 9, 192, 256]⟩
abbrev S8x81x192x256 : Shape := ⟨4, ![8, 81, 192, 256]⟩

abbrev nBuf : Space → Nat
  | .hbm => 423
  | .vmem => 0
  | .smem => 0
  | _ => 0

abbrev hbmTy0_0 (i : Nat) : BufTy := match i % 128 with
  | 0 => ⟨S8x64x192x256, .f32⟩
  | 1 => ⟨S8x64x192x256, .f32⟩
  | 2 => ⟨S_, .i32⟩
  | 3 => ⟨S_, .f32⟩
  | 4 => ⟨S8x64x200x264, .f32⟩
  | 5 => ⟨S8x64x192x256, .f32⟩
  | 6 => ⟨S8x64x192x256, .f32⟩
  | 7 => ⟨S_, .f32⟩
  | 8 => ⟨S8x192x256, .f32⟩
  | 9 => ⟨S8x64x192x256, .f32⟩
  | 10 => ⟨S8x64x192x256, .f32⟩
  | 11 => ⟨S_, .f32⟩
  | 12 => ⟨S8x192x256, .f32⟩
  | 13 => ⟨S8x64x192x256, .f32⟩
  | 14 => ⟨S8x64x192x256, .f32⟩
  | 15 => ⟨S_, .f32⟩
  | 16 => ⟨S8x192x256, .f32⟩
  | 17 => ⟨S8x64x192x256, .f32⟩
  | 18 => ⟨S8x64x192x256, .f32⟩
  | 19 => ⟨S_, .f32⟩
  | 20 => ⟨S8x192x256, .f32⟩
  | 21 => ⟨S8x64x192x256, .f32⟩
  | 22 => ⟨S8x64x192x256, .f32⟩
  | 23 => ⟨S_, .f32⟩
  | 24 => ⟨S8x192x256, .f32⟩
  | 25 => ⟨S8x64x192x256, .f32⟩
  | 26 => ⟨S8x64x192x256, .f32⟩
  | 27 => ⟨S_, .f32⟩
  | 28 => ⟨S8x192x256, .f32⟩
  | 29 => ⟨S8x64x192x256, .f32⟩
  | 30 => ⟨S8x64x192x256, .f32⟩
  | 31 => ⟨S_, .f32⟩
  | 32 => ⟨S8x192x256, .f32⟩
  | 33 => ⟨S8x64x192x256, .f32⟩
  | 34 => ⟨S8x64x192x256, .f32⟩
  | 35 => ⟨S_, .f32⟩
  | 36 => ⟨S8x192x256, .f32⟩
  | 37 => ⟨S8x64x192x256, .f32⟩
  | 38 => ⟨S8x64x192x256, .f32⟩
  | 39 => ⟨S_, .f32⟩
  | 40 => ⟨S8x192x256, .f32⟩
  | 41 => ⟨S8x64x192x256, .f32⟩
  | 42 => ⟨S8x64x192x256, .f32⟩
  | 43 => ⟨S_, .f32⟩
  | 44 => ⟨S8x192x256, .f32⟩
  | 45 => ⟨S8x64x192x256, .f32⟩
  | 46 => ⟨S8x64x192x256, .f32⟩
  | 47 => ⟨S_, .f32⟩
  | 48 => ⟨S8x192x256, .f32⟩
  | 49 => ⟨S8x64x192x256, .f32⟩
  | 50 => ⟨S8x64x192x256, .f32⟩
  | 51 => ⟨S_, .f32⟩
  | 52 => ⟨S8x192x256, .f32⟩
  | 53 => ⟨S8x64x192x256, .f32⟩
  | 54 => ⟨S8x64x192x256, .f32⟩
  | 55 => ⟨S_, .f32⟩
  | 56 => ⟨S8x192x256, .f32⟩
  | 57 => ⟨S8x64x192x256, .f32⟩
  | 58 => ⟨S8x64x192x256, .f32⟩
  | 59 => ⟨S_, .f32⟩
  | 60 => ⟨S8x192x256, .f32⟩
  | 61 => ⟨S8x64x192x256, .f32⟩
  | 62 => ⟨S8x64x192x256, .f32⟩
  | 63 => ⟨S_, .f32⟩
  | 64 => ⟨S8x192x256, .f32⟩
  | 65 => ⟨S8x64x192x256, .f32⟩
  | 66 => ⟨S8x64x192x256, .f32⟩
  | 67 => ⟨S_, .f32⟩
  | 68 => ⟨S8x192x256, .f32⟩
  | 69 => ⟨S8x64x192x256, .f32⟩
  | 70 => ⟨S8x64x192x256, .f32⟩
  | 71 => ⟨S_, .f32⟩
  | 72 => ⟨S8x192x256, .f32⟩
  | 73 => ⟨S8x64x192x256, .f32⟩
  | 74 => ⟨S8x64x192x256, .f32⟩
  | 75 => ⟨S_, .f32⟩
  | 76 => ⟨S8x192x256, .f32⟩
  | 77 => ⟨S8x64x192x256, .f32⟩
  | 78 => ⟨S8x64x192x256, .f32⟩
  | 79 => ⟨S_, .f32⟩
  | 80 => ⟨S8x192x256, .f32⟩
  | 81 => ⟨S8x64x192x256, .f32⟩
  | 82 => ⟨S8x64x192x256, .f32⟩
  | 83 => ⟨S_, .f32⟩
  | 84 => ⟨S8x192x256, .f32⟩
  | 85 => ⟨S8x64x192x256, .f32⟩
  | 86 => ⟨S8x64x192x256, .f32⟩
  | 87 => ⟨S_, .f32⟩
  | 88 => ⟨S8x192x256, .f32⟩
  | 89 => ⟨S8x64x192x256, .f32⟩
  | 90 => ⟨S8x64x192x256, .f32⟩
  | 91 => ⟨S_, .f32⟩
  | 92 => ⟨S8x192x256, .f32⟩
  | 93 => ⟨S8x64x192x256, .f32⟩
  | 94 => ⟨S8x64x192x256, .f32⟩
  | 95 => ⟨S_, .f32⟩
  | 96 => ⟨S8x192x256, .f32⟩
  | 97 => ⟨S8x64x192x256, .f32⟩
  | 98 => ⟨S8x64x192x256, .f32⟩
  | 99 => ⟨S_, .f32⟩
  | 100 => ⟨S8x192x256, .f32⟩
  | 101 => ⟨S8x64x192x256, .f32⟩
  | 102 => ⟨S8x64x192x256, .f32⟩
  | 103 => ⟨S_, .f32⟩
  | 104 => ⟨S8x192x256, .f32⟩
  | 105 => ⟨S8x64x192x256, .f32⟩
  | 106 => ⟨S8x64x192x256, .f32⟩
  | 107 => ⟨S_, .f32⟩
  | 108 => ⟨S8x192x256, .f32⟩
  | 109 => ⟨S8x64x192x256, .f32⟩
  | 110 => ⟨S8x64x192x256, .f32⟩
  | 111 => ⟨S_, .f32⟩
  | 112 => ⟨S8x192x256, .f32⟩
  | 113 => ⟨S8x64x192x256, .f32⟩
  | 114 => ⟨S8x64x192x256, .f32⟩
  | 115 => ⟨S_, .f32⟩
  | 116 => ⟨S8x192x256, .f32⟩
  | 117 => ⟨S8x64x192x256, .f32⟩
  | 118 => ⟨S8x64x192x256, .f32⟩
  | 119 => ⟨S_, .f32⟩
  | 120 => ⟨S8x192x256, .f32⟩
  | 121 => ⟨S8x64x192x256, .f32⟩
  | 122 => ⟨S8x64x192x256, .f32⟩
  | 123 => ⟨S_, .f32⟩
  | 124 => ⟨S8x192x256, .f32⟩
  | 125 => ⟨S8x64x192x256, .f32⟩
  | 126 => ⟨S8x64x192x256, .f32⟩
  | 127 => ⟨S_, .f32⟩
  | _ => ⟨S8x64x192x256, .f32⟩

abbrev hbmTy0_1 (i : Nat) : BufTy := match i % 128 with
  | 0 => ⟨S8x192x256, .f32⟩
  | 1 => ⟨S8x64x192x256, .f32⟩
  | 2 => ⟨S8x64x192x256, .f32⟩
  | 3 => ⟨S_, .f32⟩
  | 4 => ⟨S8x192x256, .f32⟩
  | 5 => ⟨S8x64x192x256, .f32⟩
  | 6 => ⟨S8x64x192x256, .f32⟩
  | 7 => ⟨S_, .f32⟩
  | 8 => ⟨S8x192x256, .f32⟩
  | 9 => ⟨S8x64x192x256, .f32⟩
  | 10 => ⟨S8x64x192x256, .f32⟩
  | 11 => ⟨S_, .f32⟩
  | 12 => ⟨S8x192x256, .f32⟩
  | 13 => ⟨S8x64x192x256, .f32⟩
  | 14 => ⟨S8x64x192x256, .f32⟩
  | 15 => ⟨S_, .f32⟩
  | 16 => ⟨S8x192x256, .f32⟩
  | 17 => ⟨S8x64x192x256, .f32⟩
  | 18 => ⟨S8x64x192x256, .f32⟩
  | 19 => ⟨S_, .f32⟩
  | 20 => ⟨S8x192x256, .f32⟩
  | 21 => ⟨S8x64x192x256, .f32⟩
  | 22 => ⟨S8x64x192x256, .f32⟩
  | 23 => ⟨S_, .f32⟩
  | 24 => ⟨S8x192x256, .f32⟩
  | 25 => ⟨S8x64x192x256, .f32⟩
  | 26 => ⟨S8x64x192x256, .f32⟩
  | 27 => ⟨S_, .f32⟩
  | 28 => ⟨S8x192x256, .f32⟩
  | 29 => ⟨S8x64x192x256, .f32⟩
  | 30 => ⟨S8x64x192x256, .f32⟩
  | 31 => ⟨S_, .f32⟩
  | 32 => ⟨S8x192x256, .f32⟩
  | 33 => ⟨S8x64x192x256, .f32⟩
  | 34 => ⟨S8x64x192x256, .f32⟩
  | 35 => ⟨S_, .f32⟩
  | 36 => ⟨S8x192x256, .f32⟩
  | 37 => ⟨S8x64x192x256, .f32⟩
  | 38 => ⟨S8x64x192x256, .f32⟩
  | 39 => ⟨S_, .f32⟩
  | 40 => ⟨S8x192x256, .f32⟩
  | 41 => ⟨S8x64x192x256, .f32⟩
  | 42 => ⟨S8x64x192x256, .f32⟩
  | 43 => ⟨S_, .f32⟩
  | 44 => ⟨S8x192x256, .f32⟩
  | 45 => ⟨S8x64x192x256, .f32⟩
  | 46 => ⟨S8x64x192x256, .f32⟩
  | 47 => ⟨S_, .f32⟩
  | 48 => ⟨S8x192x256, .f32⟩
  | 49 => ⟨S8x64x192x256, .f32⟩
  | 50 => ⟨S8x64x192x256, .f32⟩
  | 51 => ⟨S_, .f32⟩
  | 52 => ⟨S8x192x256, .f32⟩
  | 53 => ⟨S8x64x192x256, .f32⟩
  | 54 => ⟨S8x64x192x256, .f32⟩
  | 55 => ⟨S_, .f32⟩
  | 56 => ⟨S8x192x256, .f32⟩
  | 57 => ⟨S8x64x192x256, .f32⟩
  | 58 => ⟨S8x64x192x256, .f32⟩
  | 59 => ⟨S_, .f32⟩
  | 60 => ⟨S8x192x256, .f32⟩
  | 61 => ⟨S8x64x192x256, .f32⟩
  | 62 => ⟨S8x64x192x256, .f32⟩
  | 63 => ⟨S_, .f32⟩
  | 64 => ⟨S8x192x256, .f32⟩
  | 65 => ⟨S8x64x192x256, .f32⟩
  | 66 => ⟨S8x64x192x256, .f32⟩
  | 67 => ⟨S_, .f32⟩
  | 68 => ⟨S8x192x256, .f32⟩
  | 69 => ⟨S8x64x192x256, .f32⟩
  | 70 => ⟨S8x64x192x256, .f32⟩
  | 71 => ⟨S_, .f32⟩
  | 72 => ⟨S8x192x256, .f32⟩
  | 73 => ⟨S8x64x192x256, .f32⟩
  | 74 => ⟨S8x64x192x256, .f32⟩
  | 75 => ⟨S_, .f32⟩
  | 76 => ⟨S8x192x256, .f32⟩
  | 77 => ⟨S8x64x192x256, .f32⟩
  | 78 => ⟨S8x64x192x256, .f32⟩
  | 79 => ⟨S_, .f32⟩
  | 80 => ⟨S8x192x256, .f32⟩
  | 81 => ⟨S8x64x192x256, .f32⟩
  | 82 => ⟨S8x64x192x256, .f32⟩
  | 83 => ⟨S_, .f32⟩
  | 84 => ⟨S8x192x256, .f32⟩
  | 85 => ⟨S8x64x192x256, .f32⟩
  | 86 => ⟨S8x64x192x256, .f32⟩
  | 87 => ⟨S_, .f32⟩
  | 88 => ⟨S8x192x256, .f32⟩
  | 89 => ⟨S8x64x192x256, .f32⟩
  | 90 => ⟨S8x64x192x256, .f32⟩
  | 91 => ⟨S_, .f32⟩
  | 92 => ⟨S8x192x256, .f32⟩
  | 93 => ⟨S8x64x192x256, .f32⟩
  | 94 => ⟨S8x64x192x256, .f32⟩
  | 95 => ⟨S_, .f32⟩
  | 96 => ⟨S8x192x256, .f32⟩
  | 97 => ⟨S8x64x192x256, .f32⟩
  | 98 => ⟨S8x64x192x256, .f32⟩
  | 99 => ⟨S_, .f32⟩
  | 100 => ⟨S8x192x256, .f32⟩
  | 101 => ⟨S8x64x192x256, .f32⟩
  | 102 => ⟨S8x64x192x256, .f32⟩
  | 103 => ⟨S_, .f32⟩
  | 104 => ⟨S8x192x256, .f32⟩
  | 105 => ⟨S8x64x192x256, .f32⟩
  | 106 => ⟨S8x64x192x256, .f32⟩
  | 107 => ⟨S_, .f32⟩
  | 108 => ⟨S8x192x256, .f32⟩
  | 109 => ⟨S8x64x192x256, .f32⟩
  | 110 => ⟨S8x64x192x256, .f32⟩
  | 111 => ⟨S_, .f32⟩
  | 112 => ⟨S8x192x256, .f32⟩
  | 113 => ⟨S8x64x192x256, .f32⟩
  | 114 => ⟨S8x64x192x256, .f32⟩
  | 115 => ⟨S_, .f32⟩
  | 116 => ⟨S8x192x256, .f32⟩
  | 117 => ⟨S8x64x192x256, .f32⟩
  | 118 => ⟨S8x64x192x256, .f32⟩
  | 119 => ⟨S_, .f32⟩
  | 120 => ⟨S8x192x256, .f32⟩
  | 121 => ⟨S8x64x192x256, .f32⟩
  | 122 => ⟨S8x64x192x256, .f32⟩
  | 123 => ⟨S_, .f32⟩
  | 124 => ⟨S8x192x256, .f32⟩
  | 125 => ⟨S8x64x192x256, .f32⟩
  | 126 => ⟨S8x64x192x256, .f32⟩
  | 127 => ⟨S_, .f32⟩
  | _ => ⟨S8x64x192x256, .f32⟩

abbrev hbmTy0_2 (i : Nat) : BufTy := match i % 128 with
  | 0 => ⟨S8x192x256, .f32⟩
  | 1 => ⟨S8x64x192x256, .f32⟩
  | 2 => ⟨S8x64x192x256, .f32⟩
  | 3 => ⟨S_, .f32⟩
  | 4 => ⟨S8x192x256, .f32⟩
  | 5 => ⟨S8x64x192x256, .f32⟩
  | 6 => ⟨S8x64x192x256, .f32⟩
  | 7 => ⟨S_, .f32⟩
  | 8 => ⟨S8x192x256, .f32⟩
  | 9 => ⟨S8x64x192x256, .f32⟩
  | 10 => ⟨S8x64x192x256, .f32⟩
  | 11 => ⟨S_, .f32⟩
  | 12 => ⟨S8x192x256, .f32⟩
  | 13 => ⟨S8x64x192x256, .f32⟩
  | 14 => ⟨S8x64x192x256, .f32⟩
  | 15 => ⟨S_, .f32⟩
  | 16 => ⟨S8x192x256, .f32⟩
  | 17 => ⟨S8x64x192x256, .f32⟩
  | 18 => ⟨S8x64x192x256, .f32⟩
  | 19 => ⟨S_, .f32⟩
  | 20 => ⟨S8x192x256, .f32⟩
  | 21 => ⟨S8x64x192x256, .f32⟩
  | 22 => ⟨S8x64x192x256, .f32⟩
  | 23 => ⟨S_, .f32⟩
  | 24 => ⟨S8x192x256, .f32⟩
  | 25 => ⟨S8x64x192x256, .f32⟩
  | 26 => ⟨S8x64x192x256, .f32⟩
  | 27 => ⟨S_, .f32⟩
  | 28 => ⟨S8x192x256, .f32⟩
  | 29 => ⟨S8x64x192x256, .f32⟩
  | 30 => ⟨S8x64x192x256, .f32⟩
  | 31 => ⟨S_, .f32⟩
  | 32 => ⟨S8x192x256, .f32⟩
  | 33 => ⟨S8x64x192x256, .f32⟩
  | 34 => ⟨S8x64x192x256, .f32⟩
  | 35 => ⟨S_, .f32⟩
  | 36 => ⟨S8x192x256, .f32⟩
  | 37 => ⟨S8x64x192x256, .f32⟩
  | 38 => ⟨S8x64x192x256, .f32⟩
  | 39 => ⟨S_, .f32⟩
  | 40 => ⟨S8x192x256, .f32⟩
  | 41 => ⟨S8x64x192x256, .f32⟩
  | 42 => ⟨S8x64x192x256, .f32⟩
  | 43 => ⟨S_, .f32⟩
  | 44 => ⟨S8x192x256, .f32⟩
  | 45 => ⟨S8x64x192x256, .f32⟩
  | 46 => ⟨S8x64x192x256, .f32⟩
  | 47 => ⟨S_, .f32⟩
  | 48 => ⟨S8x192x256, .f32⟩
  | 49 => ⟨S8x64x192x256, .f32⟩
  | 50 => ⟨S8x64x192x256, .f32⟩
  | 51 => ⟨S_, .f32⟩
  | 52 => ⟨S8x192x256, .f32⟩
  | 53 => ⟨S8x64x192x256, .f32⟩
  | 54 => ⟨S8x64x192x256, .f32⟩
  | 55 => ⟨S_, .f32⟩
  | 56 => ⟨S8x192x256, .f32⟩
  | 57 => ⟨S8x64x192x256, .f32⟩
  | 58 => ⟨S8x64x192x256, .f32⟩
  | 59 => ⟨S_, .f32⟩
  | 60 => ⟨S8x192x256, .f32⟩
  | 61 => ⟨S8x64x192x256, .f32⟩
  | 62 => ⟨S8x64x192x256, .f32⟩
  | 63 => ⟨S_, .f32⟩
  | 64 => ⟨S8x192x256, .f32⟩
  | 65 => ⟨S8x64x192x256, .f32⟩
  | 66 => ⟨S8x64x192x256, .f32⟩
  | 67 => ⟨S_, .f32⟩
  | 68 => ⟨S8x192x256, .f32⟩
  | 69 => ⟨S8x64x192x256, .f32⟩
  | 70 => ⟨S8x64x192x256, .f32⟩
  | 71 => ⟨S_, .f32⟩
  | 72 => ⟨S8x192x256, .f32⟩
  | 73 => ⟨S8x1x192x256, .f32⟩
  | 74 => ⟨S8x1x192x256, .f32⟩
  | 75 => ⟨S8x1x192x256, .f32⟩
  | 76 => ⟨S8x1x192x256, .f32⟩
  | 77 => ⟨S8x1x192x256, .f32⟩
  | 78 => ⟨S8x1x192x256, .f32⟩
  | 79 => ⟨S8x1x192x256, .f32⟩
  | 80 => ⟨S8x1x192x256, .f32⟩
  | 81 => ⟨S8x1x192x256, .f32⟩
  | 82 => ⟨S8x9x192x256, .f32⟩
  | 83 => ⟨S8x1x192x256, .f32⟩
  | 84 => ⟨S8x1x192x256, .f32⟩
  | 85 => ⟨S8x1x192x256, .f32⟩
  | 86 => ⟨S8x1x192x256, .f32⟩
  | 87 => ⟨S8x1x192x256, .f32⟩
  | 88 => ⟨S8x1x192x256, .f32⟩
  | 89 => ⟨S8x1x192x256, .f32⟩
  | 90 => ⟨S8x1x192x256, .f32⟩
  | 91 => ⟨S8x1x192x256, .f32⟩
  | 92 => ⟨S8x9x192x256, .f32⟩
  | 93 => ⟨S8x1x192x256, .f32⟩
  | 94 => ⟨S8x1x192x256, .f32⟩
  | 95 => ⟨S8x1x192x256, .f32⟩
  | 96 => ⟨S8x1x192x256, .f32⟩
  | 97 => ⟨S8x1x192x256, .f32⟩
  | 98 => ⟨S8x1x192x256, .f32⟩
  | 99 => ⟨S8x1x192x256, .f32⟩
  | 100 => ⟨S8x1x192x256, .f32⟩
  | 101 => ⟨S8x1x192x256, .f32⟩
  | 102 => ⟨S8x9x192x256, .f32⟩
  | 103 => ⟨S8x1x192x256, .f32⟩
  | 104 => ⟨S8x1x192x256, .f32⟩
  | 105 => ⟨S8x1x192x256, .f32⟩
  | 106 => ⟨S8x1x192x256, .f32⟩
  | 107 => ⟨S8x1x192x256, .f32⟩
  | 108 => ⟨S8x1x192x256, .f32⟩
  | 109 => ⟨S8x1x192x256, .f32⟩
  | 110 => ⟨S8x1x192x256, .f32⟩
  | 111 => ⟨S8x1x192x256, .f32⟩
  | 112 => ⟨S8x9x192x256, .f32⟩
  | 113 => ⟨S8x1x192x256, .f32⟩
  | 114 => ⟨S8x1x192x256, .f32⟩
  | 115 => ⟨S8x1x192x256, .f32⟩
  | 116 => ⟨S8x1x192x256, .f32⟩
  | 117 => ⟨S8x1x192x256, .f32⟩
  | 118 => ⟨S8x1x192x256, .f32⟩
  | 119 => ⟨S8x1x192x256, .f32⟩
  | 120 => ⟨S8x1x192x256, .f32⟩
  | 121 => ⟨S8x1x192x256, .f32⟩
  | 122 => ⟨S8x9x192x256, .f32⟩
  | 123 => ⟨S8x1x192x256, .f32⟩
  | 124 => ⟨S8x1x192x256, .f32⟩
  | 125 => ⟨S8x1x192x256, .f32⟩
  | 126 => ⟨S8x1x192x256, .f32⟩
  | 127 => ⟨S8x1x192x256, .f32⟩
  | _ => ⟨S8x64x192x256, .f32⟩

abbrev hbmTy0_3 (i : Nat) : BufTy := match i % 128 with
  | 0 => ⟨S8x1x192x256, .f32⟩
  | 1 => ⟨S8x1x192x256, .f32⟩
  | 2 => ⟨S8x1x192x256, .f32⟩
  | 3 => ⟨S8x1x192x256, .f32⟩
  | 4 => ⟨S8x9x192x256, .f32⟩
  | 5 => ⟨S8x1x192x256, .f32⟩
  | 6 => ⟨S8x1x192x256, .f32⟩
  | 7 => ⟨S8x1x192x256, .f32⟩
  | 8 => ⟨S8x1x192x256, .f32⟩
  | 9 => ⟨S8x1x192x256, .f32⟩
  | 10 => ⟨S8x1x192x256, .f32⟩
  | 11 => ⟨S8x1x192x256, .f32⟩
  | 12 => ⟨S8x1x192x256, .f32⟩
  | 13 => ⟨S8x1x192x256, .f32⟩
  | 14 => ⟨S8x9x192x256, .f32⟩
  | 15 => ⟨S8x1x192x256, .f32⟩
  | 16 => ⟨S8x1x192x256, .f32⟩
  | 17 => ⟨S8x1x192x256, .f32⟩
  | 18 => ⟨S8x1x192x256, .f32⟩
  | 19 => ⟨S8x1x192x256, .f32⟩
  | 20 => ⟨S8x1x192x256, .f32⟩
  | 21 => ⟨S8x1x192x256, .f32⟩
  | 22 => ⟨S8x1x192x256, .f32⟩
  | 23 => ⟨S8x1x192x256, .f32⟩
  | 24 => ⟨S8x9x192x256, .f32⟩
  | 25 => ⟨S8x1x192x256, .f32⟩
  | 26 => ⟨S8x1x192x256, .f32⟩
  | 27 => ⟨S8x1x192x256, .f32⟩
  | 28 => ⟨S8x1x192x256, .f32⟩
  | 29 => ⟨S8x1x192x256, .f32⟩
  | 30 => ⟨S8x1x192x256, .f32⟩
  | 31 => ⟨S8x1x192x256, .f32⟩
  | 32 => ⟨S8x1x192x256, .f32⟩
  | 33 => ⟨S8x1x192x256, .f32⟩
  | 34 => ⟨S8x9x192x256, .f32⟩
  | 35 => ⟨S8x81x192x256, .f32⟩
  | 36 => ⟨S_, .f32⟩
  | 37 => ⟨S8x81x192x256, .f32⟩
  | 38 => ⟨S8x81x192x256, .f32⟩
  | _ => ⟨S8x64x192x256, .f32⟩

abbrev hbmTy (i : Nat) : BufTy := match i / 128 with
  | 0 => hbmTy0_0 i
  | 1 => hbmTy0_1 i
  | 2 => hbmTy0_2 i
  | 3 => hbmTy0_3 i
  | _ => ⟨S8x64x192x256, .f32⟩

abbrev bufTy : (tb : Table) → Fin (tcTables nBuf tb) → BufTy
  | .hbm, ⟨i, _⟩ => hbmTy i
  | _, _ => ⟨S8x64x192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_10 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_11 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_12 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_13 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_14 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_15 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_16 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_17 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_18 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_19 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_20 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_21 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_22 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_23 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_24 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_25 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_26 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_27 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_28 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_29 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_30 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_31 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_32 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_cst_33 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_34 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_cst_35 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_cst_36 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_cst_37 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_cst_38 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_cst_39 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_cst_40 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_cst_41 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_cst_42 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_cst_43 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_cst_44 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_cst_45 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_cst_46 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_cst_47 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_cst_48 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_cst_49 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_cst_50 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_cst_51 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_cst_52 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_cst_53 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_cst_54 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_cst_55 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_cst_56 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_cst_57 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_cst_58 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_cst_59 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_cst_60 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_cst_61 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_cst_62 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_cst_63 : Ref sig .tc := ⟨.hbm, 263, rfl⟩
abbrev main_v195 : Ref sig .tc := ⟨.hbm, 264, rfl⟩
abbrev main_v196 : Ref sig .tc := ⟨.hbm, 265, rfl⟩
abbrev main_v197 : Ref sig .tc := ⟨.hbm, 266, rfl⟩
abbrev main_cst_64 : Ref sig .tc := ⟨.hbm, 267, rfl⟩
abbrev main_v198 : Ref sig .tc := ⟨.hbm, 268, rfl⟩
abbrev main_v199 : Ref sig .tc := ⟨.hbm, 269, rfl⟩
abbrev main_v200 : Ref sig .tc := ⟨.hbm, 270, rfl⟩
abbrev main_cst_65 : Ref sig .tc := ⟨.hbm, 271, rfl⟩
abbrev main_v201 : Ref sig .tc := ⟨.hbm, 272, rfl⟩
abbrev main_v202 : Ref sig .tc := ⟨.hbm, 273, rfl⟩
abbrev main_v203 : Ref sig .tc := ⟨.hbm, 274, rfl⟩
abbrev main_cst_66 : Ref sig .tc := ⟨.hbm, 275, rfl⟩
abbrev main_v204 : Ref sig .tc := ⟨.hbm, 276, rfl⟩
abbrev main_v205 : Ref sig .tc := ⟨.hbm, 277, rfl⟩
abbrev main_v206 : Ref sig .tc := ⟨.hbm, 278, rfl⟩
abbrev main_cst_67 : Ref sig .tc := ⟨.hbm, 279, rfl⟩
abbrev main_v207 : Ref sig .tc := ⟨.hbm, 280, rfl⟩
abbrev main_v208 : Ref sig .tc := ⟨.hbm, 281, rfl⟩
abbrev main_v209 : Ref sig .tc := ⟨.hbm, 282, rfl⟩
abbrev main_cst_68 : Ref sig .tc := ⟨.hbm, 283, rfl⟩
abbrev main_v210 : Ref sig .tc := ⟨.hbm, 284, rfl⟩
abbrev main_v211 : Ref sig .tc := ⟨.hbm, 285, rfl⟩
abbrev main_v212 : Ref sig .tc := ⟨.hbm, 286, rfl⟩
abbrev main_cst_69 : Ref sig .tc := ⟨.hbm, 287, rfl⟩
abbrev main_v213 : Ref sig .tc := ⟨.hbm, 288, rfl⟩
abbrev main_v214 : Ref sig .tc := ⟨.hbm, 289, rfl⟩
abbrev main_v215 : Ref sig .tc := ⟨.hbm, 290, rfl⟩
abbrev main_cst_70 : Ref sig .tc := ⟨.hbm, 291, rfl⟩
abbrev main_v216 : Ref sig .tc := ⟨.hbm, 292, rfl⟩
abbrev main_v217 : Ref sig .tc := ⟨.hbm, 293, rfl⟩
abbrev main_v218 : Ref sig .tc := ⟨.hbm, 294, rfl⟩
abbrev main_cst_71 : Ref sig .tc := ⟨.hbm, 295, rfl⟩
abbrev main_v219 : Ref sig .tc := ⟨.hbm, 296, rfl⟩
abbrev main_v220 : Ref sig .tc := ⟨.hbm, 297, rfl⟩
abbrev main_v221 : Ref sig .tc := ⟨.hbm, 298, rfl⟩
abbrev main_cst_72 : Ref sig .tc := ⟨.hbm, 299, rfl⟩
abbrev main_v222 : Ref sig .tc := ⟨.hbm, 300, rfl⟩
abbrev main_v223 : Ref sig .tc := ⟨.hbm, 301, rfl⟩
abbrev main_v224 : Ref sig .tc := ⟨.hbm, 302, rfl⟩
abbrev main_cst_73 : Ref sig .tc := ⟨.hbm, 303, rfl⟩
abbrev main_v225 : Ref sig .tc := ⟨.hbm, 304, rfl⟩
abbrev main_v226 : Ref sig .tc := ⟨.hbm, 305, rfl⟩
abbrev main_v227 : Ref sig .tc := ⟨.hbm, 306, rfl⟩
abbrev main_cst_74 : Ref sig .tc := ⟨.hbm, 307, rfl⟩
abbrev main_v228 : Ref sig .tc := ⟨.hbm, 308, rfl⟩
abbrev main_v229 : Ref sig .tc := ⟨.hbm, 309, rfl⟩
abbrev main_v230 : Ref sig .tc := ⟨.hbm, 310, rfl⟩
abbrev main_cst_75 : Ref sig .tc := ⟨.hbm, 311, rfl⟩
abbrev main_v231 : Ref sig .tc := ⟨.hbm, 312, rfl⟩
abbrev main_v232 : Ref sig .tc := ⟨.hbm, 313, rfl⟩
abbrev main_v233 : Ref sig .tc := ⟨.hbm, 314, rfl⟩
abbrev main_cst_76 : Ref sig .tc := ⟨.hbm, 315, rfl⟩
abbrev main_v234 : Ref sig .tc := ⟨.hbm, 316, rfl⟩
abbrev main_v235 : Ref sig .tc := ⟨.hbm, 317, rfl⟩
abbrev main_v236 : Ref sig .tc := ⟨.hbm, 318, rfl⟩
abbrev main_cst_77 : Ref sig .tc := ⟨.hbm, 319, rfl⟩
abbrev main_v237 : Ref sig .tc := ⟨.hbm, 320, rfl⟩
abbrev main_v238 : Ref sig .tc := ⟨.hbm, 321, rfl⟩
abbrev main_v239 : Ref sig .tc := ⟨.hbm, 322, rfl⟩
abbrev main_cst_78 : Ref sig .tc := ⟨.hbm, 323, rfl⟩
abbrev main_v240 : Ref sig .tc := ⟨.hbm, 324, rfl⟩
abbrev main_v241 : Ref sig .tc := ⟨.hbm, 325, rfl⟩
abbrev main_v242 : Ref sig .tc := ⟨.hbm, 326, rfl⟩
abbrev main_cst_79 : Ref sig .tc := ⟨.hbm, 327, rfl⟩
abbrev main_v243 : Ref sig .tc := ⟨.hbm, 328, rfl⟩
abbrev main_v244 : Ref sig .tc := ⟨.hbm, 329, rfl⟩
abbrev main_v245 : Ref sig .tc := ⟨.hbm, 330, rfl⟩
abbrev main_v246 : Ref sig .tc := ⟨.hbm, 331, rfl⟩
abbrev main_v247 : Ref sig .tc := ⟨.hbm, 332, rfl⟩
abbrev main_v248 : Ref sig .tc := ⟨.hbm, 333, rfl⟩
abbrev main_v249 : Ref sig .tc := ⟨.hbm, 334, rfl⟩
abbrev main_v250 : Ref sig .tc := ⟨.hbm, 335, rfl⟩
abbrev main_v251 : Ref sig .tc := ⟨.hbm, 336, rfl⟩
abbrev main_v252 : Ref sig .tc := ⟨.hbm, 337, rfl⟩
abbrev main_v253 : Ref sig .tc := ⟨.hbm, 338, rfl⟩
abbrev main_v254 : Ref sig .tc := ⟨.hbm, 339, rfl⟩
abbrev main_v255 : Ref sig .tc := ⟨.hbm, 340, rfl⟩
abbrev main_v256 : Ref sig .tc := ⟨.hbm, 341, rfl⟩
abbrev main_v257 : Ref sig .tc := ⟨.hbm, 342, rfl⟩
abbrev main_v258 : Ref sig .tc := ⟨.hbm, 343, rfl⟩
abbrev main_v259 : Ref sig .tc := ⟨.hbm, 344, rfl⟩
abbrev main_v260 : Ref sig .tc := ⟨.hbm, 345, rfl⟩
abbrev main_v261 : Ref sig .tc := ⟨.hbm, 346, rfl⟩
abbrev main_v262 : Ref sig .tc := ⟨.hbm, 347, rfl⟩
abbrev main_v263 : Ref sig .tc := ⟨.hbm, 348, rfl⟩
abbrev main_v264 : Ref sig .tc := ⟨.hbm, 349, rfl⟩
abbrev main_v265 : Ref sig .tc := ⟨.hbm, 350, rfl⟩
abbrev main_v266 : Ref sig .tc := ⟨.hbm, 351, rfl⟩
abbrev main_v267 : Ref sig .tc := ⟨.hbm, 352, rfl⟩
abbrev main_v268 : Ref sig .tc := ⟨.hbm, 353, rfl⟩
abbrev main_v269 : Ref sig .tc := ⟨.hbm, 354, rfl⟩
abbrev main_v270 : Ref sig .tc := ⟨.hbm, 355, rfl⟩
abbrev main_v271 : Ref sig .tc := ⟨.hbm, 356, rfl⟩
abbrev main_v272 : Ref sig .tc := ⟨.hbm, 357, rfl⟩
abbrev main_v273 : Ref sig .tc := ⟨.hbm, 358, rfl⟩
abbrev main_v274 : Ref sig .tc := ⟨.hbm, 359, rfl⟩
abbrev main_v275 : Ref sig .tc := ⟨.hbm, 360, rfl⟩
abbrev main_v276 : Ref sig .tc := ⟨.hbm, 361, rfl⟩
abbrev main_v277 : Ref sig .tc := ⟨.hbm, 362, rfl⟩
abbrev main_v278 : Ref sig .tc := ⟨.hbm, 363, rfl⟩
abbrev main_v279 : Ref sig .tc := ⟨.hbm, 364, rfl⟩
abbrev main_v280 : Ref sig .tc := ⟨.hbm, 365, rfl⟩
abbrev main_v281 : Ref sig .tc := ⟨.hbm, 366, rfl⟩
abbrev main_v282 : Ref sig .tc := ⟨.hbm, 367, rfl⟩
abbrev main_v283 : Ref sig .tc := ⟨.hbm, 368, rfl⟩
abbrev main_v284 : Ref sig .tc := ⟨.hbm, 369, rfl⟩
abbrev main_v285 : Ref sig .tc := ⟨.hbm, 370, rfl⟩
abbrev main_v286 : Ref sig .tc := ⟨.hbm, 371, rfl⟩
abbrev main_v287 : Ref sig .tc := ⟨.hbm, 372, rfl⟩
abbrev main_v288 : Ref sig .tc := ⟨.hbm, 373, rfl⟩
abbrev main_v289 : Ref sig .tc := ⟨.hbm, 374, rfl⟩
abbrev main_v290 : Ref sig .tc := ⟨.hbm, 375, rfl⟩
abbrev main_v291 : Ref sig .tc := ⟨.hbm, 376, rfl⟩
abbrev main_v292 : Ref sig .tc := ⟨.hbm, 377, rfl⟩
abbrev main_v293 : Ref sig .tc := ⟨.hbm, 378, rfl⟩
abbrev main_v294 : Ref sig .tc := ⟨.hbm, 379, rfl⟩
abbrev main_v295 : Ref sig .tc := ⟨.hbm, 380, rfl⟩
abbrev main_v296 : Ref sig .tc := ⟨.hbm, 381, rfl⟩
abbrev main_v297 : Ref sig .tc := ⟨.hbm, 382, rfl⟩
abbrev main_v298 : Ref sig .tc := ⟨.hbm, 383, rfl⟩
abbrev main_v299 : Ref sig .tc := ⟨.hbm, 384, rfl⟩
abbrev main_v300 : Ref sig .tc := ⟨.hbm, 385, rfl⟩
abbrev main_v301 : Ref sig .tc := ⟨.hbm, 386, rfl⟩
abbrev main_v302 : Ref sig .tc := ⟨.hbm, 387, rfl⟩
abbrev main_v303 : Ref sig .tc := ⟨.hbm, 388, rfl⟩
abbrev main_v304 : Ref sig .tc := ⟨.hbm, 389, rfl⟩
abbrev main_v305 : Ref sig .tc := ⟨.hbm, 390, rfl⟩
abbrev main_v306 : Ref sig .tc := ⟨.hbm, 391, rfl⟩
abbrev main_v307 : Ref sig .tc := ⟨.hbm, 392, rfl⟩
abbrev main_v308 : Ref sig .tc := ⟨.hbm, 393, rfl⟩
abbrev main_v309 : Ref sig .tc := ⟨.hbm, 394, rfl⟩
abbrev main_v310 : Ref sig .tc := ⟨.hbm, 395, rfl⟩
abbrev main_v311 : Ref sig .tc := ⟨.hbm, 396, rfl⟩
abbrev main_v312 : Ref sig .tc := ⟨.hbm, 397, rfl⟩
abbrev main_v313 : Ref sig .tc := ⟨.hbm, 398, rfl⟩
abbrev main_v314 : Ref sig .tc := ⟨.hbm, 399, rfl⟩
abbrev main_v315 : Ref sig .tc := ⟨.hbm, 400, rfl⟩
abbrev main_v316 : Ref sig .tc := ⟨.hbm, 401, rfl⟩
abbrev main_v317 : Ref sig .tc := ⟨.hbm, 402, rfl⟩
abbrev main_v318 : Ref sig .tc := ⟨.hbm, 403, rfl⟩
abbrev main_v319 : Ref sig .tc := ⟨.hbm, 404, rfl⟩
abbrev main_v320 : Ref sig .tc := ⟨.hbm, 405, rfl⟩
abbrev main_v321 : Ref sig .tc := ⟨.hbm, 406, rfl⟩
abbrev main_v322 : Ref sig .tc := ⟨.hbm, 407, rfl⟩
abbrev main_v323 : Ref sig .tc := ⟨.hbm, 408, rfl⟩
abbrev main_v324 : Ref sig .tc := ⟨.hbm, 409, rfl⟩
abbrev main_v325 : Ref sig .tc := ⟨.hbm, 410, rfl⟩
abbrev main_v326 : Ref sig .tc := ⟨.hbm, 411, rfl⟩
abbrev main_v327 : Ref sig .tc := ⟨.hbm, 412, rfl⟩
abbrev main_v328 : Ref sig .tc := ⟨.hbm, 413, rfl⟩
abbrev main_v329 : Ref sig .tc := ⟨.hbm, 414, rfl⟩
abbrev main_v330 : Ref sig .tc := ⟨.hbm, 415, rfl⟩
abbrev main_v331 : Ref sig .tc := ⟨.hbm, 416, rfl⟩
abbrev main_v332 : Ref sig .tc := ⟨.hbm, 417, rfl⟩
abbrev main_v333 : Ref sig .tc := ⟨.hbm, 418, rfl⟩
abbrev main_v334 : Ref sig .tc := ⟨.hbm, 419, rfl⟩
abbrev main_cst_80 : Ref sig .tc := ⟨.hbm, 420, rfl⟩
abbrev main_v335 : Ref sig .tc := ⟨.hbm, 421, rfl⟩
abbrev main_v336 : Ref sig .tc := ⟨.hbm, 422, rfl⟩

abbrev nD : Nat := 1
abbrev τ : Topo := Topo.v7x

variable {F : FTy → Type} [FloatOps F]
-- ==== Proof.SafeRun.lean ====
/-
  The kernel as printed, at any floating-point arithmetic: every grid point runs to its end on whatever its scratch
  and output buffers hold and leaves its input blocks as they were, so the launch terminates with the arguments
  unchanged and every counter at zero. Nothing is said of what the output holds.
-/
module

public import proofs.«01_k».proof.Proof.Gen.Kernel.Frame.Runs
public import Idealize.ShloMosaic.Lib.Claim

@[expose] public section

set_option maxRecDepth 16384

noncomputable section

namespace Cert.Kernel.Safe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1876000 in
/-- THE BODY RUNS: from its three input blocks and any contents elsewhere to the same input blocks and some contents
    elsewhere. -/
theorem body_safe (c : Dev nD) (i : grid0.Coords)
    (arg2 : Memref sig .tc .vmem S1x64x64x256 .f32) (harg2 : arg2.IsWhole)
    (arg3 : Memref sig .tc .vmem S1x64x64x264 .f32) (harg3 : arg3.IsWhole)
    (arg4 : Memref sig .tc .vmem S1x64x64x264 .f32) (harg4 : arg4.IsWhole)
    (arg5 : Memref sig .tc .vmem S1x81x64x256 .f32) (harg5 : arg5.IsWhole)
    (arg6 : Memref sig .tc .vmem S72x64x256 .f32) (harg6 : arg6.IsWhole)
    (arg7 : Memref sig .tc .vmem S72x64x256 .f32) (harg7 : arg7.IsWhole)
    (arg8 : Memref sig .tc .vmem S64x64x256 .f32) (harg8 : arg8.IsWhole)
    (x0 : Vec F S1x64x64x256 .f32) (x1 : Vec F S1x64x64x264 .f32) (x2 : Vec F S1x64x64x264 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare x0 ∗ owns (c : Thread nD τ) arg3 fullShare x1
          ∗ owns (c : Thread nD τ) arg4 fullShare x2 ∗ (∃ d, owns (c : Thread nD τ) arg5 fullShare d)
          ∗ (∃ d, owns (c : Thread nD τ) arg6 fullShare d) ∗ (∃ d, owns (c : Thread nD τ) arg7 fullShare d)
          ∗ (∃ d, owns (c : Thread nD τ) arg8 fullShare d)) -∗ K ⟨⟩))
      ⊢ wp frame (wpE (defs₀ (F := F)) Variants.none c none) E (cc0_cost_volume_t i arg2 harg2 arg3 harg3 arg4 harg4 arg5 harg5 arg6 harg6 arg7 harg7 arg8 harg8) K := by
  simp only [cc0_cost_volume_t_eq_skeleton]; unfold cc0_cost_volume_t_skel
  simp only [k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _, _; isplitr; swap; · iexact H3
    ipureintro; rfl
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

end Cert.Kernel.Safe

end
-- ==== Proof.SafeRegion.lean ====
/-
  The printed kernel's launch, at any floating-point arithmetic: it terminates with the arguments unchanged and every
  counter at zero. The output window is forgotten: nothing is said of what it holds.
-/
module

public import proofs.«01_k».proof.Proof.SafeRun

@[expose] public section

set_option maxRecDepth 16384

noncomputable section

namespace Cert.Kernel.Safe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The forgotten windows: the output alone. -/
abbrev fgt : Fin cfg0.W → Bool := fun | 0 => false | 1 => false | 2 => false | _ => true

/-- The launch's proof data: each input's buffer holds its block after a point. What stands for the output is read
    by nothing. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => VO0_3.read (Elt F) VO0_3.junk
  Φ _ := Pipeline.ΦA spec0 c
  q w := Pipeline.shareOf spec0 w
  owed _ := 0

/-- The launch finds the arrays at their contents on entry. -/
theorem dats_A (c : Dev nD) (w : Fin cfg0.W) : (dats m 0 c).A w = V m c (Pipeline.arrRef spec0 w) := by
  dsimp only [dats]

/-- What a point leaves in the input windows. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]

/-- A point's body, run on the staging memrefs: the input blocks come back, the output at some contents. -/
theorem body_at (c : Dev nD) (t : Fin cfg0.N) :
    iprop((dats m 0 c).Φ t.castSucc ∗ (dats m 0 c).owesAt () t.castSucc
        ∗ (∃ d, owns (c : Thread nD τ) (ms0_0 t) fullShare ((dats m 0 c).before 0 t d))
        ∗ (∃ d, owns (c : Thread nD τ) (ms0_1 t) fullShare ((dats m 0 c).before 1 t d))
        ∗ (∃ d, owns (c : Thread nD τ) (ms0_2 t) fullShare ((dats m 0 c).before 2 t d))
        ∗ (∃ d, owns (c : Thread nD τ) (ms0_3 t) fullShare d))
      ⊢ wp frame (wpE (defs₀ (F := F)) Variants.none c none) Set.univ (bodyAt0 t) (fun _ =>
        iprop((dats m 0 c).Φ t.succ ∗ (dats m 0 c).owesAt () t.succ
          ∗ owns (c : Thread nD τ) (ms0_0 t) fullShare ((dats m 0 c).after 0 t)
          ∗ owns (c : Thread nD τ) (ms0_1 t) fullShare ((dats m 0 c).after 1 t)
          ∗ owns (c : Thread nD τ) (ms0_2 t) fullShare ((dats m 0 c).after 2 t)
          ∗ (∃ d, owns (c : Thread nD τ) (ms0_3 t) fullShare d))) := by
  unfold bodyAt0
  simp only [before0_0_of m (dats m 0 c) (dats_A m c 0) (after0 m c), before0_1_of m (dats m 0 c) (dats_A m c 1) (after1 m c),
    before0_2_of m (dats m 0 c) (dats_A m c 2) (after2 m c)]
  rw [show (dats m 0 c).Φ t.succ = (dats m 0 c).Φ t.castSucc from rfl,
    show (dats m 0 c).owesAt () t.succ = (dats m 0 c).owesAt () t.castSucc from rfl, after0, after1, after2,
    show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, H3⟩
  iapply (body_safe c (grid0.coords t) _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  iexact H3

/-- The same for the body as the launch calls it. -/
theorem obligation (c : Dev nD) : BodyObligation (dats m 0 c) (defs₀ (F := F)) Variants.none () Set.univ fgt := fun t => by
  rw [bigSep_W0, bigSep_W0, show defs₀ (F := F) .tc cfg0.body (cfg0.bodyArgs t (cfg0.slots t)) = bodyAt0 t by
    unfold defs₀; rw [Defs.onTc_tc]]
  exact triple_restated (body_at m c t) rfl .rfl fun _ => .rfl

set_option backward.isDefEq.respectTransparency.types false in
/-- THE LAUNCH terminates with the arguments unchanged and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_frame_forget_shared cfgs (dats m) (0 : Fin 1) launch₀0 defs₀ Variants.none fgt m ρ main
    (hbody := fun c => (obligation m c).loose) (hq := fun _ _ _ => rfl)
    (howed := fun _ _ => rfl) (V := V m) (hmain := hmain m Variants.none) (hA := dats_A m) (hΦ := fun _ _ => rfl)
    (Q' := _) (hQ' := fun _ h => ⟨fun c => ⟨(h.1.arr_in c 0 rfl).trans ((dats_A m c 0).trans (V_main_arg0 m c)),
      ((h.1 c).2 main_arg1 (Pipeline.mem_restRefs_of main_arg1 (by decide) (by decide))).trans (V_main_arg1 m c)⟩, h.2⟩)

end Cert.Kernel.Safe

end
-- ==== Proof.Block.lean ====
/-
  What one grid point of the kernel writes, as a function of the two arrays that the point's loops read:
  `A`, the scaled left rows (row, channel, lane), and `W d`, the right rows moved `d` lanes.
  Displacement channel `k` of the output belongs to one of 81 pairs of a row shift and a lane shift;
  `rowOf k` and `laneOf k` are that pair.
-/
module

public import proofs.«01_k».proof.Proof.Gen.KernelIdeal.Loops
public import Idealize.ShloMosaic.Lib.Pointwise
public import Idealize.ShloMosaic.Lib.VecWindow

@[expose] public section

set_option maxRecDepth 16384

noncomputable section

namespace Cert.KernelIdeal.Blocks

open Idealize.ShloMosaic Idealize.ShloMosaic.TcCoe Idealize.SL.Sem
open Cert.KernelIdeal Cert.KernelIdeal.Gen

/-- The row shift of displacement channel `k`. -/
def rowOf (k : ℕ) : Fin 9 := ⟨8 - (k + 40) % 81 / 9, by omega⟩

/-- The lane shift of displacement channel `k`. -/
def laneOf (k : ℕ) : Fin 9 := ⟨8 - (k + 40) % 81 % 9, by omega⟩

/-- The output block of the left rows `A` and the right rows `W d`: at channel `k`, row `h`, lane `w`
    the sum over the 64 feature channels of left times displaced right. -/
def block (A : Vec Ideal S64x64x256 .f32) (W : Fin 9 → Vec Ideal S72x64x256 .f32) :
    Vec Ideal S1x81x64x256 .f32 := fun y =>
  ∑ c : Fin 64, A (ix3 (y 2) c (y 3))
    * W (laneOf (y 1).val) (ix3 ⟨(y 2).val + (rowOf (y 1).val).val, by
        have h2 : (y 2).val < 64 := (y 2).isLt
        have := (rowOf (y 1).val).isLt
        omega⟩ c (y 3))

/-- The right rows moved `d` lanes, from the point's two right blocks: the first 64 rows are the first
    block's, the next 8 are the first rows of the second block. -/
def win (x1 x2 : Vec Ideal S1x64x64x264 .f32) (d : Fin 9) : Vec Ideal S72x64x256 .f32 := fun y =>
  if h : (y 0).val < 64 then
    x1 (ix4 0 ⟨(y 0).val, h⟩ (y 1) ⟨(y 2).val + d.val, by
      have h2 : (y 2).val < 256 := (y 2).isLt
      have := d.isLt
      omega⟩)
  else
    x2 (ix4 0 ⟨(y 0).val - 64, by have h0 : (y 0).val < 72 := (y 0).isLt; omega⟩ (y 1) ⟨(y 2).val + d.val, by
      have h2 : (y 2).val < 256 := (y 2).isLt
      have := d.isLt
      omega⟩)

/-- The output block at an index given by its coordinates. -/
theorem block_at {A : Vec Ideal S64x64x256 .f32} {W : Fin 9 → Vec Ideal S72x64x256 .f32} {y : S1x81x64x256.Idx}
    {k h : ℕ} {w : Fin 256} (hh : h < 64) (h1 : (y 1).val = k) (h2 : (y 2).val = h) (h3 : (y 3).val = w.val) :
    block A W y = ∑ c : Fin 64, A (ix3 ⟨h, hh⟩ c w)
      * W (laneOf k) (ix3 ⟨h + (rowOf k).val, by have := (rowOf k).isLt; omega⟩ c w) := by
  subst h1 h2
  obtain rfl : y 3 = w := Fin.ext h3
  rfl

/-- The moved right rows at one of the first 64 rows. -/
theorem win_lo {x1 x2 : Vec Ideal S1x64x64x264 .f32} {d : Fin 9} {y : S72x64x256.Idx} {r : ℕ} {q : Fin 64} {w : Fin 256}
    (hr : r < 64) (h0 : (y 0).val = r) (h1 : (y 1).val = q.val) (h2 : (y 2).val = w.val) :
    win x1 x2 d y = x1 (ix4 0 ⟨r, hr⟩ q ⟨w.val + d.val, by have := d.isLt; omega⟩) := by
  subst h0
  obtain rfl : y 1 = q := Fin.ext h1
  obtain rfl : y 2 = w := Fin.ext h2
  exact dif_pos hr

/-- The moved right rows at one of the last 8 rows. -/
theorem win_hi {x1 x2 : Vec Ideal S1x64x64x264 .f32} {d : Fin 9} {y : S72x64x256.Idx} {r : ℕ} {q : Fin 64} {w : Fin 256}
    (hr : r < 8) (h0 : (y 0).val = 64 + r) (h1 : (y 1).val = q.val) (h2 : (y 2).val = w.val) :
    win x1 x2 d y = x2 (ix4 0 ⟨r, by omega⟩ q ⟨w.val + d.val, by have := d.isLt; omega⟩) := by
  obtain rfl : y 1 = q := Fin.ext h1
  obtain rfl : y 2 = w := Fin.ext h2
  refine (dif_neg (by omega)).trans (congrArg x2 (funext fun a => Fin.ext ?_))
  match a with
  | ⟨0, _⟩ => rfl
  | ⟨1, _⟩ => show (y 0).val - 64 = r; omega
  | ⟨2, _⟩ => rfl
  | ⟨3, _⟩ => rfl

/-- A row of the output: the products of a left row and a right row, summed over the feature channels. -/
theorem row_apply (a b : Vec Ideal S1x64x256 .f32) (x : S1x1x1x256.Idx) :
    k0_pay6 a b x = ∑ c : Fin 64, a (ix3 0 c (x 3)) * b (ix3 0 c (x 3)) := by
  unfold_payloads
  pointwise []

/-- All stores of a list agree with one function `G` of the buffer's index. -/
def Of {s : Shape} (G : Vec Ideal s .f32) (L : List (View.Piece (Elt Ideal) s .f32)) : Prop :=
  ∀ p ∈ L, ∀ x : p.1.shape.Idx, p.2 x = G (p.1.emb x)

theorem Of.nil {s : Shape} {G : Vec Ideal s .f32} : Of G [] := fun _ h => absurd h List.not_mem_nil

theorem Of.cons {s : Shape} {G : Vec Ideal s .f32} {p : View.Piece (Elt Ideal) s .f32}
    {L : List (View.Piece (Elt Ideal) s .f32)} (hp : ∀ x : p.1.shape.Idx, p.2 x = G (p.1.emb x)) (hL : Of G L) :
    Of G (p :: L) := fun q hq => by
  rcases List.mem_cons.mp hq with rfl | hq
  · exact hp
  · exact hL q hq

theorem Of.append {s : Shape} {G : Vec Ideal s .f32} {L L' : List (View.Piece (Elt Ideal) s .f32)}
    (h : Of G L) (h' : Of G L') : Of G (L ++ L') := fun q hq => by
  rcases List.mem_append.mp hq with hq | hq
  · exact h q hq
  · exact h' q hq

/-- ONE OUTPUT STORE of a trip: row `h` of displacement channel `k`, computed from row `h` of the left rows
    and row `h + r` of the right rows moved `d` lanes, is the output block there. -/
theorem out_piece {a8 : Memref sig .tc .vmem S64x64x256 .f32} {ac : Memref sig .tc .vmem S72x64x256 .f32}
    {X8 : BufTy.Contents (Elt Ideal) a8.view.ty} {Xc : BufTy.Contents (Elt Ideal) ac.view.ty}
    {A : Vec Ideal S64x64x256 .f32} {W : Fin 9 → Vec Ideal S72x64x256 .f32} {d r : Fin 9} {h k : ℕ}
    (hA : a8.view.read (Elt Ideal) X8 = A) (hW : ac.view.read (Elt Ideal) Xc = W d)
    {o8 oc : Fin 3 → ℕ} {oo : Fin 4 → ℕ} (e8 : o8 = ![h, 0, 0]) (ec : oc = ![h + r.val, 0, 0])
    (eo : oo = ![0, k, h, 0]) (hr : rowOf k = r) (hd : laneOf k = d)
    (i8 : ∀ a, o8 a + S1x64x256.size a ≤ S64x64x256.size a) (ic : ∀ a, oc a + S1x64x256.size a ≤ S72x64x256.size a)
    (io : ∀ a, oo a + S1x1x1x256.size a ≤ S1x81x64x256.size a) (x : S1x1x1x256.Idx) :
    k0_pay6 (a8.view.readAt (Elt Ideal) (Rect.unit (s := S64x64x256) o8 S1x64x256.size i8).toLoadRect X8)
        (ac.view.readAt (Elt Ideal) (Rect.unit (s := S72x64x256) oc S1x64x256.size ic).toLoadRect Xc) x
      = block A W ((Rect.unit (s := S1x81x64x256) oo S1x1x1x256.size io).emb x) := by
  subst e8 ec eo hr hd
  have h8 : h + 1 ≤ 64 := i8 0
  rw [row_apply, block_at (k := k) (h := h) (hh := h8) (w := x 3)
    (h1 := by show k + 1 * (x 1).val = k; have : (x 1).val < 1 := (x 1).isLt; omega)
    (h2 := by show h + 1 * (x 2).val = h; have : (x 2).val < 1 := (x 2).isLt; omega)
    (h3 := by show 0 + 1 * (x 3).val = (x 3).val; omega)]
  refine Finset.sum_congr rfl fun c _ => ?_
  rw [← hA, ← hW]
  refine Ideal.mul_congr (congrArg (a8.view.read (Elt Ideal) X8) (funext fun a => Fin.ext ?_))
    (congrArg (ac.view.read (Elt Ideal) Xc) (funext fun a => Fin.ext ?_))
  · match a with
    | ⟨0, _⟩ => show h + 1 * 0 = h; omega
    | ⟨1, _⟩ => show 0 + 1 * c.val = c.val; omega
    | ⟨2, _⟩ => show 0 + 1 * (x 3).val = (x 3).val; omega
  · match a with
    | ⟨0, _⟩ => show h + (rowOf k).val + 1 * 0 = h + (rowOf k).val; omega
    | ⟨1, _⟩ => show 0 + 1 * c.val = c.val; omega
    | ⟨2, _⟩ => show 0 + 1 * (x 3).val = (x 3).val; omega

/-- The displacement channel of the row shift `r` and the lane shift `d`. -/
def chan (d r : Fin 9) : ℕ := (9 * (8 - r.val) + (8 - d.val) + 41) % 81

theorem rowOf_chan : ∀ d r : Fin 9, rowOf (chan d r) = r := by decide

theorem laneOf_chan : ∀ d r : Fin 9, laneOf (chan d r) = d := by decide

/-- Row `h` of the left rows against row `o` of the right rows, both read from the scratch: the payload of one
    output store. -/
abbrev pay (a8 : Memref sig .tc .vmem S64x64x256 .f32) (ac : Memref sig .tc .vmem S72x64x256 .f32)
    (X8 : BufTy.Contents (Elt Ideal) a8.view.ty) (Xc : BufTy.Contents (Elt Ideal) ac.view.ty) {o8 oc : Fin 3 → ℕ}
    (i8 : ∀ a, o8 a + S1x64x256.size a ≤ S64x64x256.size a)
    (ic : ∀ a, oc a + S1x64x256.size a ≤ S72x64x256.size a) : Vec Ideal S1x1x1x256 .f32 :=
  k0_pay6 (a8.view.readAt (Elt Ideal) (Rect.unit (s := S64x64x256) o8 S1x64x256.size i8).toLoadRect X8)
    (ac.view.readAt (Elt Ideal) (Rect.unit (s := S72x64x256) oc S1x64x256.size ic).toLoadRect Xc)

/-- THE OUTPUT STORES OF ONE TRIP, of the loop of lane shift `d`: row `h` of the nine channels of that lane shift. -/
theorem Of.nine {a8 : Memref sig .tc .vmem S64x64x256 .f32} {ac : Memref sig .tc .vmem S72x64x256 .f32}
    {X8 : BufTy.Contents (Elt Ideal) a8.view.ty} {Xc : BufTy.Contents (Elt Ideal) ac.view.ty}
    {A : Vec Ideal S64x64x256 .f32} {W : Fin 9 → Vec Ideal S72x64x256 .f32} {d : Fin 9} {h : ℕ}
    (hA : a8.view.read (Elt Ideal) X8 = A) (hW : ac.view.read (Elt Ideal) Xc = W d)
    {oa : Fin 3 → ℕ} {oc : BitVec 32 → Fin 3 → ℕ} (ea : oa = ![h, 0, 0])
    (ec : ∀ r : Fin 9, oc (BitVec.ofNat 32 r.val) = ![h + r.val, 0, 0])
    {i8 : ∀ a, oa a + S1x64x256.size a ≤ S64x64x256.size a}
    (ic : ∀ r : Fin 9, ∀ a, oc (BitVec.ofNat 32 r.val) a + S1x64x256.size a ≤ S72x64x256.size a)
    {o0 o1 o2 o3 o4 o5 o6 o7 o8 : Fin 4 → ℕ}
    {j0 : ∀ a, o0 a + S1x1x1x256.size a ≤ S1x81x64x256.size a}
    {j1 : ∀ a, o1 a + S1x1x1x256.size a ≤ S1x81x64x256.size a}
    {j2 : ∀ a, o2 a + S1x1x1x256.size a ≤ S1x81x64x256.size a}
    {j3 : ∀ a, o3 a + S1x1x1x256.size a ≤ S1x81x64x256.size a}
    {j4 : ∀ a, o4 a + S1x1x1x256.size a ≤ S1x81x64x256.size a}
    {j5 : ∀ a, o5 a + S1x1x1x256.size a ≤ S1x81x64x256.size a}
    {j6 : ∀ a, o6 a + S1x1x1x256.size a ≤ S1x81x64x256.size a}
    {j7 : ∀ a, o7 a + S1x1x1x256.size a ≤ S1x81x64x256.size a}
    {j8 : ∀ a, o8 a + S1x1x1x256.size a ≤ S1x81x64x256.size a}
    {v0 v1 v2 v3 v4 v5 v6 v7 v8 : Vec Ideal S1x1x1x256 .f32}
    (e0 : o0 = ![0, chan d 0, h, 0])
    (e1 : o1 = ![0, chan d 1, h, 0])
    (e2 : o2 = ![0, chan d 2, h, 0])
    (e3 : o3 = ![0, chan d 3, h, 0])
    (e4 : o4 = ![0, chan d 4, h, 0])
    (e5 : o5 = ![0, chan d 5, h, 0])
    (e6 : o6 = ![0, chan d 6, h, 0])
    (e7 : o7 = ![0, chan d 7, h, 0])
    (e8 : o8 = ![0, chan d 8, h, 0])
    (h0 : v0 = pay a8 ac X8 Xc i8 (ic 0))
    (h1 : v1 = pay a8 ac X8 Xc i8 (ic 1))
    (h2 : v2 = pay a8 ac X8 Xc i8 (ic 2))
    (h3 : v3 = pay a8 ac X8 Xc i8 (ic 3))
    (h4 : v4 = pay a8 ac X8 Xc i8 (ic 4))
    (h5 : v5 = pay a8 ac X8 Xc i8 (ic 5))
    (h6 : v6 = pay a8 ac X8 Xc i8 (ic 6))
    (h7 : v7 = pay a8 ac X8 Xc i8 (ic 7))
    (h8 : v8 = pay a8 ac X8 Xc i8 (ic 8)) :
    Of (block A W) [⟨Rect.unit (s := S1x81x64x256) o8 S1x1x1x256.size j8, v8⟩,
      ⟨Rect.unit (s := S1x81x64x256) o7 S1x1x1x256.size j7, v7⟩,
      ⟨Rect.unit (s := S1x81x64x256) o6 S1x1x1x256.size j6, v6⟩,
      ⟨Rect.unit (s := S1x81x64x256) o5 S1x1x1x256.size j5, v5⟩,
      ⟨Rect.unit (s := S1x81x64x256) o4 S1x1x1x256.size j4, v4⟩,
      ⟨Rect.unit (s := S1x81x64x256) o3 S1x1x1x256.size j3, v3⟩,
      ⟨Rect.unit (s := S1x81x64x256) o2 S1x1x1x256.size j2, v2⟩,
      ⟨Rect.unit (s := S1x81x64x256) o1 S1x1x1x256.size j1, v1⟩,
      ⟨Rect.unit (s := S1x81x64x256) o0 S1x1x1x256.size j0, v0⟩] :=
  have P {o : Fin 4 → ℕ} {j : ∀ a, o a + S1x1x1x256.size a ≤ S1x81x64x256.size a} {v : Vec Ideal S1x1x1x256 .f32}
      (r : Fin 9) (e : o = ![0, chan d r, h, 0]) (hv : v = pay a8 ac X8 Xc i8 (ic r))
      {L : List (View.Piece (Elt Ideal) S1x81x64x256 .f32)} (hL : Of (block A W) L) :
      Of (block A W) (⟨Rect.unit (s := S1x81x64x256) o S1x1x1x256.size j, v⟩ :: L) :=
    .cons (fun x => (congrFun hv x).trans
      (out_piece hA hW ea (ec r) e (rowOf_chan d r) (laneOf_chan d r) i8 (ic r) j x)) hL
  P 8 e8 h8 <| P 7 e7 h7 <| P 6 e6 h6 <| P 5 e5 h5 <| P 4 e4 h4 <| P 3 e3 h3 <| P 2 e2 h2 <| P 1 e1 h1 <| P 0 e0 h0 .nil

/-- A row read from a right block and stored as a row of the scratch is that row, channel by lane. -/
theorem copy_apply (v : Vec Ideal S1x1x64x256 .f32) (x : S1x64x256.Idx) :
    k0_pay15 v x = v (ix4 0 0 (x 1) (x 2)) := by
  unfold_payloads
  pointwise []

/-- ONE ROW COPIED by a trip into the scratch of the right rows moved `d` lanes. -/
theorem row_piece {a3 : Memref sig .tc .vmem S1x64x64x264 .f32} {X3 : BufTy.Contents (Elt Ideal) a3.view.ty}
    {x1 x2 : Vec Ideal S1x64x64x264 .f32} {d : Fin 9} {h : ℕ} (h3 : a3.view.read (Elt Ideal) X3 = x1)
    {o3 : Fin 4 → ℕ} {oo : Fin 3 → ℕ} (e3 : o3 = ![0, h, 0, d.val]) (eo : oo = ![h, 0, 0])
    (i3 : ∀ a, o3 a + S1x1x64x256.size a ≤ S1x64x64x264.size a)
    (io : ∀ a, oo a + S1x64x256.size a ≤ S72x64x256.size a) (x : S1x64x256.Idx) :
    k0_pay15 (a3.view.readAt (Elt Ideal) (Rect.unit (s := S1x64x64x264) o3 S1x1x64x256.size i3).toLoadRect X3) x
      = win x1 x2 d ((Rect.unit (s := S72x64x256) oo S1x64x256.size io).emb x) := by
  subst e3 eo
  have hh : h + 1 ≤ 64 := i3 1
  rw [copy_apply, win_lo (r := h) (hr := hh) (q := x 1) (w := x 2)
    (h0 := by show h + 1 * (x 0).val = h; have : (x 0).val < 1 := (x 0).isLt; omega)
    (h1 := by show 0 + 1 * (x 1).val = (x 1).val; omega)
    (h2 := by show 0 + 1 * (x 2).val = (x 2).val; omega), ← h3]
  refine congrArg (a3.view.read (Elt Ideal) X3) (funext fun a => Fin.ext ?_)
  match a with
  | ⟨0, _⟩ => rfl
  | ⟨1, _⟩ => show h + 1 * 0 = h; omega
  | ⟨2, _⟩ => show 0 + 1 * (x 1).val = (x 1).val; omega
  | ⟨3, _⟩ => show d.val + 1 * (x 2).val = (x 2).val + d.val; omega

/-- The one-row store of row `h` covers that row of the scratch. -/
theorem row_cover {oo : Fin 3 → ℕ} {h : ℕ} (eo : oo = ![h, 0, 0])
    (io : ∀ a, oo a + S1x64x256.size a ≤ S72x64x256.size a) (y : S72x64x256.Idx) (hy : (y 0).val = h) :
    y ∈ (Rect.unit (s := S72x64x256) oo S1x64x256.size io).set := by
  subst eo
  rw [Rect.mem_set_unit]
  intro a
  match a with
  | ⟨0, _⟩ => exact ⟨hy.ge, by show (y 0).val < h + 1; omega⟩
  | ⟨1, _⟩ => exact ⟨Nat.zero_le _, by show (y 1).val < 0 + 64; have : (y 1).val < 64 := (y 1).isLt; omega⟩
  | ⟨2, _⟩ => exact ⟨Nat.zero_le _, by show (y 2).val < 0 + 256; have : (y 2).val < 256 := (y 2).isLt; omega⟩

/-- A list of scratch stores that are all the right rows moved `d` lanes, and that cover every row in `R`. -/
def Rows (x1 x2 : Vec Ideal S1x64x64x264 .f32) (d : Fin 9) (R : ℕ → Prop)
    (L : List (View.Piece (Elt Ideal) S72x64x256 .f32)) : Prop :=
  Of (win x1 x2 d) L ∧ ∀ y : S72x64x256.Idx, R (y 0).val → ∃ p ∈ L, y ∈ p.1.set

/-- The one-row store of row `h` is such a list, for row `h`. -/
theorem Rows.one {a3 : Memref sig .tc .vmem S1x64x64x264 .f32} {X3 : BufTy.Contents (Elt Ideal) a3.view.ty}
    {x1 x2 : Vec Ideal S1x64x64x264 .f32} {d : Fin 9} {h : ℕ} (h3 : a3.view.read (Elt Ideal) X3 = x1)
    {o3 : Fin 4 → ℕ} {oo : Fin 3 → ℕ} (e3 : o3 = ![0, h, 0, d.val]) (eo : oo = ![h, 0, 0])
    {i3 : ∀ a, o3 a + S1x1x64x256.size a ≤ S1x64x64x264.size a}
    {io : ∀ a, oo a + S1x64x256.size a ≤ S72x64x256.size a} {v : Vec Ideal S1x64x256 .f32}
    (hv : v = k0_pay15 (a3.view.readAt (Elt Ideal) (Rect.unit (s := S1x64x64x264) o3 S1x1x64x256.size i3).toLoadRect X3)) :
    Rows x1 x2 d (· = h) [⟨Rect.unit (s := S72x64x256) oo S1x64x256.size io, v⟩] :=
  ⟨.cons (fun x => (congrFun hv x).trans (row_piece h3 e3 eo i3 io x)) .nil,
    fun y hy => ⟨_, List.mem_cons_self, row_cover eo io y hy⟩⟩

/-- A loop's stores, trip after trip: what each trip's lists satisfy, the lists of the trips before `n` satisfy,
    with every row before `n` covered. -/
theorem upto {G : Vec Ideal S1x81x64x256 .f32} {x1 x2 : Vec Ideal S1x64x64x264 .f32} {d : Fin 9} {N : ℕ}
    (f : ℕ → List (View.Piece (Elt Ideal) S1x81x64x256 .f32) × List (View.Piece (Elt Ideal) S72x64x256 .f32))
    (t : Fin N → List (View.Piece (Elt Ideal) S1x81x64x256 .f32) × List (View.Piece (Elt Ideal) S72x64x256 .f32))
    (h0 : f 0 = ([], [])) (hs : ∀ k : Fin N, f (k.val + 1) = ((t k).1 ++ (f k.val).1, (t k).2 ++ (f k.val).2))
    (ht : ∀ k : Fin N, Of G (t k).1 ∧ Rows x1 x2 d (· = k.val) (t k).2) :
    ∀ n, n ≤ N → Of G (f n).1 ∧ Rows x1 x2 d (· < n) (f n).2
  | 0, _ => by
    rw [h0]
    exact ⟨.nil, .nil, fun _ h => absurd h (Nat.not_lt_zero _)⟩
  | n + 1, hn => by
    obtain ⟨a, b, b'⟩ := upto f t h0 hs ht n (by omega)
    obtain ⟨p, q, q'⟩ := ht ⟨n, hn⟩
    rw [hs ⟨n, hn⟩]
    refine ⟨p.append a, q.append b, fun y hy => ?_⟩
    rcases Nat.lt_succ_iff_lt_or_eq.mp hy with h | h
    · obtain ⟨z, hz, hm⟩ := b' y h
      exact ⟨z, List.mem_append_right _ hz, hm⟩
    · obtain ⟨z, hz, hm⟩ := q' y h
      exact ⟨z, List.mem_append_left _ hz, hm⟩

/-- The same for the last loop, which writes the output alone. -/
theorem upto_last {G : Vec Ideal S1x81x64x256 .f32} {N : ℕ} (f : ℕ → List (View.Piece (Elt Ideal) S1x81x64x256 .f32))
    (t : Fin N → List (View.Piece (Elt Ideal) S1x81x64x256 .f32)) (h0 : f 0 = [])
    (hs : ∀ k : Fin N, f (k.val + 1) = t k ++ f k.val) (ht : ∀ k : Fin N, Of G (t k)) : ∀ n, n ≤ N → Of G (f n)
  | 0, _ => h0 ▸ .nil
  | n + 1, hn => by
    rw [hs ⟨n, hn⟩]
    exact (ht ⟨n, hn⟩).append (upto_last f t h0 hs ht n (by omega))

end Cert.KernelIdeal.Blocks

end
-- ==== Proof.Trips.lean ====
/-
  The nine loops of one grid point. Each trip of a loop writes one row of nine displacement channels, and
  all loops but the last copy one row into the scratch of the next lane shift; here every such store is
  shown to be the output block, or the moved right rows, at its place.
-/
module

public import proofs.«01_k».proof.Proof.Block

@[expose] public section

set_option maxRecDepth 16384

noncomputable section

namespace Cert.KernelIdeal.Blocks

open Idealize.ShloMosaic Idealize.ShloMosaic.TcCoe Idealize.SL.Sem
open Cert.KernelIdeal Cert.KernelIdeal.Gen

variable {𝒱 : Variants} {c : Dev nD} {bd : Option 𝒱.V} {i : grid0.Coords}
  {arg2 : Memref sig .tc .vmem S1x64x64x256 .f32} {harg2 : arg2.IsWhole}
  {arg3 : Memref sig .tc .vmem S1x64x64x264 .f32} {harg3 : arg3.IsWhole}
  {arg4 : Memref sig .tc .vmem S1x64x64x264 .f32} {harg4 : arg4.IsWhole}
  {arg5 : Memref sig .tc .vmem S1x81x64x256 .f32} {harg5 : arg5.IsWhole}
  {arg6 : Memref sig .tc .vmem S72x64x256 .f32} {harg6 : arg6.IsWhole}
  {arg7 : Memref sig .tc .vmem S72x64x256 .f32} {harg7 : arg7.IsWhole}
  {arg8 : Memref sig .tc .vmem S64x64x256 .f32} {harg8 : arg8.IsWhole}
  {v506 : FVec Ideal S8x8x256 .f32}
  {X3 : BufTy.Contents (Elt Ideal) arg3.view.ty} {X6 : BufTy.Contents (Elt Ideal) arg6.view.ty}
  {X7 : BufTy.Contents (Elt Ideal) arg7.view.ty} {X8 : BufTy.Contents (Elt Ideal) arg8.view.ty}
  {x1 x2 : Vec Ideal S1x64x64x264 .f32} {A : Vec Ideal S64x64x256 .f32}

/-- The first loop, of lane shift 0. -/
theorem loop1 (h3 : arg3.view.read (Elt Ideal) X3 = x1) (h6 : arg6.view.read (Elt Ideal) X6 = win x1 x2 0)
    (h8 : arg8.view.read (Elt Ideal) X8 = A) :
    Of (block A (win x1 x2)) (pb_k0_t1 𝒱 c bd i arg2 harg2 arg3 harg3 arg4 harg4 arg5 harg5 arg6 harg6 arg7 harg7 arg8 harg8 v506 X3 X6 X8 k0_t1_loop.trips).1
    ∧ Rows x1 x2 1 (· < 64) (pb_k0_t1 𝒱 c bd i arg2 harg2 arg3 harg3 arg4 harg4 arg5 harg5 arg6 harg6 arg7 harg7 arg8 harg8 v506 X3 X6 X8 k0_t1_loop.trips).2 :=
  upto _ _ rfl (pb_k0_t1_succ 𝒱 c bd i arg2 harg2 arg3 harg3 arg4 harg4 arg5 harg5 arg6 harg6 arg7 harg7 arg8 harg8 v506 X3 X6 X8) (fun k => by
    unfold tripL_k0_t1 trip_k0_t1
    dsimp only
    exact ⟨.nine h8 h6 (k0_off1_eq k) (k0_off2_eq k) (k0_off2_inb k)
      (k0_off3_eq k) (k0_off4_eq k) (k0_off5_eq k) (k0_off6_eq k) (k0_off7_eq k) (k0_off8_eq k) (k0_off9_eq k) (k0_off10_eq k) (k0_off11_eq k)
      rfl rfl rfl rfl rfl rfl rfl rfl rfl,
      .one h3 (k0_off12_eq k) (k0_off13_eq k) rfl⟩) _ le_rfl

/-- The second loop, of lane shift 1. -/
theorem loop2 (h3 : arg3.view.read (Elt Ideal) X3 = x1) (h7 : arg7.view.read (Elt Ideal) X7 = win x1 x2 1)
    (h8 : arg8.view.read (Elt Ideal) X8 = A) :
    Of (block A (win x1 x2)) (pb_k0_t2 𝒱 c bd i arg2 harg2 arg3 harg3 arg4 harg4 arg5 harg5 arg6 harg6 arg7 harg7 arg8 harg8 v506 X3 X7 X8 k0_t2_loop.trips).1
    ∧ Rows x1 x2 2 (· < 64) (pb_k0_t2 𝒱 c bd i arg2 harg2 arg3 harg3 arg4 harg4 arg5 harg5 arg6 harg6 arg7 harg7 arg8 harg8 v506 X3 X7 X8 k0_t2_loop.trips).2 :=
  upto _ _ rfl (pb_k0_t2_succ 𝒱 c bd i arg2 harg2 arg3 harg3 arg4 harg4 arg5 harg5 arg6 harg6 arg7 harg7 arg8 harg8 v506 X3 X7 X8) (fun k => by
    unfold tripL_k0_t2 trip_k0_t2
    dsimp only
    exact ⟨.nine h8 h7 (k0_off14_eq k) (k0_off15_eq k) (k0_off15_inb k)
      (k0_off16_eq k) (k0_off17_eq k) (k0_off18_eq k) (k0_off19_eq k) (k0_off20_eq k) (k0_off21_eq k) (k0_off22_eq k) (k0_off23_eq k) (k0_off24_eq k)
      rfl rfl rfl rfl rfl rfl rfl rfl rfl,
      .one h3 (k0_off25_eq k) (k0_off26_eq k) rfl⟩) _ le_rfl

/-- The third loop, of lane shift 2. -/
theorem loop3 (h3 : arg3.view.read (Elt Ideal) X3 = x1) (h6 : arg6.view.read (Elt Ideal) X6 = win x1 x2 2)
    (h8 : arg8.view.read (Elt Ideal) X8 = A) :
    Of (block A (win x1 x2)) (pb_k0_t3 𝒱 c bd i arg2 harg2 arg3 harg3 arg4 harg4 arg5 harg5 arg6 harg6 arg7 harg7 arg8 harg8 X3 X6 X8 k0_t3_loop.trips).1
    ∧ Rows x1 x2 3 (· < 64) (pb_k0_t3 𝒱 c bd i arg2 harg2 arg3 harg3 arg4 harg4 arg5 harg5 arg6 harg6 arg7 harg7 arg8 harg8 X3 X6 X8 k0_t3_loop.trips).2 :=
  upto _ _ rfl (pb_k0_t3_succ 𝒱 c bd i arg2 harg2 arg3 harg3 arg4 harg4 arg5 harg5 arg6 harg6 arg7 harg7 arg8 harg8 X3 X6 X8) (fun k => by
    unfold tripL_k0_t3 trip_k0_t3
    dsimp only
    exact ⟨.nine h8 h6 (k0_off27_eq k) (k0_off28_eq k) (k0_off28_inb k)
      (k0_off29_eq k) (k0_off30_eq k) (k0_off31_eq k) (k0_off32_eq k) (k0_off33_eq k) (k0_off34_eq k) (k0_off35_eq k) (k0_off36_eq k) (k0_off37_eq k)
      rfl rfl rfl rfl rfl rfl rfl rfl rfl,
      .one h3 (k0_off38_eq k) (k0_off39_eq k) rfl⟩) _ le_rfl

/-- The fourth loop, of lane shift 3. -/
theorem loop4 (h3 : arg3.view.read (Elt Ideal) X3 = x1) (h7 : arg7.view.read (Elt Ideal) X7 = win x1 x2 3)
    (h8 : arg8.view.read (Elt Ideal) X8 = A) :
    Of (block A (win x1 x2)) (pb_k0_t4 𝒱 c bd i arg2 harg2 arg3 harg3 arg4 harg4 arg5 harg5 arg6 harg6 arg7 harg7 arg8 harg8 X3 X7 X8 k0_t4_loop.trips).1
    ∧ Rows x1 x2 4 (· < 64) (pb_k0_t4 𝒱 c bd i arg2 harg2 arg3 harg3 arg4 harg4 arg5 harg5 arg6 harg6 arg7 harg7 arg8 harg8 X3 X7 X8 k0_t4_loop.trips).2 :=
  upto _ _ rfl (pb_k0_t4_succ 𝒱 c bd i arg2 harg2 arg3 harg3 arg4 harg4 arg5 harg5 arg6 harg6 arg7 harg7 arg8 harg8 X3 X7 X8) (fun k => by
    unfold tripL_k0_t4 trip_k0_t4
    dsimp only
    exact ⟨.nine h8 h7 (k0_off40_eq k) (k0_off41_eq k) (k0_off41_inb k)
      (k0_off42_eq k) (k0_off43_eq k) (k0_off44_eq k) (k0_off45_eq k) (k0_off46_eq k) (k0_off47_eq k) (k0_off48_eq k) (k0_off49_eq k) (k0_off50_eq k)
      rfl rfl rfl rfl rfl rfl rfl rfl rfl,
      .one h3 (k0_off51_eq k) (k0_off52_eq k) rfl⟩) _ le_rfl

/-- The fifth loop, of lane shift 4. -/
theorem loop5 (h3 : arg3.view.read (Elt Ideal) X3 = x1) (h6 : arg6.view.read (Elt Ideal) X6 = win x1 x2 4)
    (h8 : arg8.view.read (Elt Ideal) X8 = A) :
    Of (block A (win x1 x2)) (pb_k0_t5 𝒱 c bd i arg2 harg2 arg3 harg3 arg4 harg4 arg5 harg5 arg6 harg6 arg7 harg7 arg8 harg8 X3 X6 X8 k0_t5_loop.trips).1
    ∧ Rows x1 x2 5 (· < 64) (pb_k0_t5 𝒱 c bd i arg2 harg2 arg3 harg3 arg4 harg4 arg5 harg5 arg6 harg6 arg7 harg7 arg8 harg8 X3 X6 X8 k0_t5_loop.trips).2 :=
  upto _ _ rfl (pb_k0_t5_succ 𝒱 c bd i arg2 harg2 arg3 harg3 arg4 harg4 arg5 harg5 arg6 harg6 arg7 harg7 arg8 harg8 X3 X6 X8) (fun k => by
    unfold tripL_k0_t5 trip_k0_t5
    dsimp only
    exact ⟨.nine h8 h6 (k0_off53_eq k) (k0_off54_eq k) (k0_off54_inb k)
      (k0_off55_eq k) (k0_off56_eq k) (k0_off57_eq k) (k0_off58_eq k) (k0_off59_eq k) (k0_off60_eq k) (k0_off61_eq k) (k0_off62_eq k) (k0_off63_eq k)
      rfl rfl rfl rfl rfl rfl rfl rfl rfl,
      .one h3 (k0_off64_eq k) (k0_off65_eq k) rfl⟩) _ le_rfl

/-- The sixth loop, of lane shift 5. -/
theorem loop6 (h3 : arg3.view.read (Elt Ideal) X3 = x1) (h7 : arg7.view.read (Elt Ideal) X7 = win x1 x2 5)
    (h8 : arg8.view.read (Elt Ideal) X8 = A) :
    Of (block A (win x1 x2)) (pb_k0_t6 𝒱 c bd i arg2 harg2 arg3 harg3 arg4 harg4 arg5 harg5 arg6 harg6 arg7 harg7 arg8 harg8 X3 X7 X8 k0_t6_loop.trips).1
    ∧ Rows x1 x2 6 (· < 64) (pb_k0_t6 𝒱 c bd i arg2 harg2 arg3 harg3 arg4 harg4 arg5 harg5 arg6 harg6 arg7 harg7 arg8 harg8 X3 X7 X8 k0_t6_loop.trips).2 :=
  upto _ _ rfl (pb_k0_t6_succ 𝒱 c bd i arg2 harg2 arg3 harg3 arg4 harg4 arg5 harg5 arg6 harg6 arg7 harg7 arg8 harg8 X3 X7 X8) (fun k => by
    unfold tripL_k0_t6 trip_k0_t6
    dsimp only
    exact ⟨.nine h8 h7 (k0_off66_eq k) (k0_off67_eq k) (k0_off67_inb k)
      (k0_off68_eq k) (k0_off69_eq k) (k0_off70_eq k) (k0_off71_eq k) (k0_off72_eq k) (k0_off73_eq k) (k0_off74_eq k) (k0_off75_eq k) (k0_off76_eq k)
      rfl rfl rfl rfl rfl rfl rfl rfl rfl,
      .one h3 (k0_off77_eq k) (k0_off78_eq k) rfl⟩) _ le_rfl

/-- The seventh loop, of lane shift 6. -/
theorem loop7 (h3 : arg3.view.read (Elt Ideal) X3 = x1) (h6 : arg6.view.read (Elt Ideal) X6 = win x1 x2 6)
    (h8 : arg8.view.read (Elt Ideal) X8 = A) :
    Of (block A (win x1 x2)) (pb_k0_t7 𝒱 c bd i arg2 harg2 arg3 harg3 arg4 harg4 arg5 harg5 arg6 harg6 arg7 harg7 arg8 harg8 X3 X6 X8 k0_t7_loop.trips).1
    ∧ Rows x1 x2 7 (· < 64) (pb_k0_t7 𝒱 c bd i arg2 harg2 arg3 harg3 arg4 harg4 arg5 harg5 arg6 harg6 arg7 harg7 arg8 harg8 X3 X6 X8 k0_t7_loop.trips).2 :=
  upto _ _ rfl (pb_k0_t7_succ 𝒱 c bd i arg2 harg2 arg3 harg3 arg4 harg4 arg5 harg5 arg6 harg6 arg7 harg7 arg8 harg8 X3 X6 X8) (fun k => by
    unfold tripL_k0_t7 trip_k0_t7
    dsimp only
    exact ⟨.nine h8 h6 (k0_off79_eq k) (k0_off80_eq k) (k0_off80_inb k)
      (k0_off81_eq k) (k0_off82_eq k) (k0_off83_eq k) (k0_off84_eq k) (k0_off85_eq k) (k0_off86_eq k) (k0_off87_eq k) (k0_off88_eq k) (k0_off89_eq k)
      rfl rfl rfl rfl rfl rfl rfl rfl rfl,
      .one h3 (k0_off90_eq k) (k0_off91_eq k) rfl⟩) _ le_rfl

/-- The eighth loop, of lane shift 7. -/
theorem loop8 (h3 : arg3.view.read (Elt Ideal) X3 = x1) (h7 : arg7.view.read (Elt Ideal) X7 = win x1 x2 7)
    (h8 : arg8.view.read (Elt Ideal) X8 = A) :
    Of (block A (win x1 x2)) (pb_k0_t8 𝒱 c bd i arg2 harg2 arg3 harg3 arg4 harg4 arg5 harg5 arg6 harg6 arg7 harg7 arg8 harg8 X3 X7 X8 k0_t8_loop.trips).1
    ∧ Rows x1 x2 8 (· < 64) (pb_k0_t8 𝒱 c bd i arg2 harg2 arg3 harg3 arg4 harg4 arg5 harg5 arg6 harg6 arg7 harg7 arg8 harg8 X3 X7 X8 k0_t8_loop.trips).2 :=
  upto _ _ rfl (pb_k0_t8_succ 𝒱 c bd i arg2 harg2 arg3 harg3 arg4 harg4 arg5 harg5 arg6 harg6 arg7 harg7 arg8 harg8 X3 X7 X8) (fun k => by
    unfold tripL_k0_t8 trip_k0_t8
    dsimp only
    exact ⟨.nine h8 h7 (k0_off92_eq k) (k0_off93_eq k) (k0_off93_inb k)
      (k0_off94_eq k) (k0_off95_eq k) (k0_off96_eq k) (k0_off97_eq k) (k0_off98_eq k) (k0_off99_eq k) (k0_off100_eq k) (k0_off101_eq k) (k0_off102_eq k)
      rfl rfl rfl rfl rfl rfl rfl rfl rfl,
      .one h3 (k0_off103_eq k) (k0_off104_eq k) rfl⟩) _ le_rfl

/-- The ninth loop, of lane shift 8. -/
theorem loop9 (h6 : arg6.view.read (Elt Ideal) X6 = win x1 x2 8)
    (h8 : arg8.view.read (Elt Ideal) X8 = A) :
    Of (block A (win x1 x2)) (pb_k0_t9 𝒱 c bd i arg2 harg2 arg3 harg3 arg4 harg4 arg5 harg5 arg6 harg6 arg7 harg7 arg8 harg8 X6 X8 k0_t9_loop.trips) :=
  upto_last _ _ rfl (pb_k0_t9_succ 𝒱 c bd i arg2 harg2 arg3 harg3 arg4 harg4 arg5 harg5 arg6 harg6 arg7 harg7 arg8 harg8 X6 X8) (fun k => by
    unfold tripL_k0_t9 trip_k0_t9
    dsimp only
    exact .nine h8 h6 (k0_off105_eq k) (k0_off106_eq k) (k0_off106_inb k)
      (k0_off107_eq k) (k0_off108_eq k) (k0_off109_eq k) (k0_off110_eq k) (k0_off111_eq k) (k0_off112_eq k) (k0_off113_eq k) (k0_off114_eq k) (k0_off115_eq k)
      rfl rfl rfl rfl rfl rfl rfl rfl rfl) _ le_rfl

end Cert.KernelIdeal.Blocks

end
-- ==== Proof.Fill.lean ====
/-
  What the scratch arrays hold: the scaled left rows, stored in 64 tiles, and the moved right rows, stored
  as a copied part and a tail of 8 rows. Also the general step from "every store agrees with one array, and
  the stores cover it" to "the buffer reads back as that array".
-/
module

public import proofs.«01_k».proof.Proof.Block
public import Idealize.ShloMosaic.Lib.Pipeline.FrameBody
public import Idealize.ShloMosaic.Lib.Pipeline.Value
public import Idealize.ShloMosaic.Lib.Ring

@[expose] public section

set_option maxRecDepth 16384

noncomputable section

namespace Cert.KernelIdeal.Blocks

open Idealize.ShloMosaic Idealize.ShloMosaic.TcCoe Idealize.SL.Sem
open Cert.KernelIdeal Cert.KernelIdeal.Gen

/-- A buffer whose stores all agree with `G`, and cover it, reads back as `G`, whatever it held before. -/
theorem Of.read {sp : Space} {s : Shape} {G : Vec Ideal s .f32} {L : List (View.Piece (Elt Ideal) s .f32)} (hL : Of G L)
    (hc : ∀ y : s.Idx, ∃ p ∈ L, y ∈ p.1.set) (a : Memref sig .tc sp s .f32) (f : BufTy.Contents (Elt Ideal) a.view.ty) :
    a.view.read (Elt Ideal) (a.view.writes (Elt Ideal) f L) = G :=
  (View.read_writes_eq_canon _ _ _ hc).trans (funext fun y => View.canon_apply_of_pieces G L hL y (hc y))

/-- The left rows of a point: the left block with its rows first, times the named constant. -/
def left (x0 : Vec Ideal S1x64x64x256 .f32) : Vec Ideal S64x64x256 .f32 := fun y =>
  x0 (ix4 0 (y 1) (y 0) (y 2)) * (Named.named κ "inv" 0x3C4A4588#32 : Ideal .f32)

/-- One tile of the left rows, from the tile of the left block: channels and rows exchanged, and scaled. -/
theorem tile_apply (v : Vec Ideal S1x8x8x256 .f32) (x : S8x8x256.Idx) :
    k0_pay100 v x = v (ix4 0 (x 1) (x 0) (x 2)) * (Named.named κ "inv" 0x3C4A4588#32 : Ideal .f32) := by
  unfold_payloads
  pointwise []

/-- The tile of the left block at channel `q`, row `h` lies in the block when the tile of the left rows does. -/
theorem tile_inb {h q : ℕ} (i8 : ∀ a, (![h, q, 0] : Fin 3 → ℕ) a + S8x8x256.size a ≤ S64x64x256.size a) :
    ∀ a, (![0, q, h, 0] : Fin 4 → ℕ) a + S1x8x8x256.size a ≤ S1x64x64x256.size a := fun a =>
  match a with
  | ⟨0, _⟩ => le_refl 1
  | ⟨1, _⟩ => i8 1
  | ⟨2, _⟩ => i8 0
  | ⟨3, _⟩ => le_refl 256

/-- ONE TILE STORED into the scratch of the left rows. -/
theorem Of.tile {a2 : Memref sig .tc .vmem S1x64x64x256 .f32} {X2 : BufTy.Contents (Elt Ideal) a2.view.ty}
    {x0 : Vec Ideal S1x64x64x256 .f32} (h2 : a2.view.read (Elt Ideal) X2 = x0) {h q : ℕ}
    {i8 : ∀ a, (![h, q, 0] : Fin 3 → ℕ) a + S8x8x256.size a ≤ S64x64x256.size a} {v : Vec Ideal S8x8x256 .f32}
    (hv : v = k0_pay100 (a2.view.readAt (Elt Ideal)
      (Rect.unit (s := S1x64x64x256) ![0, q, h, 0] S1x8x8x256.size (tile_inb i8)).toLoadRect X2))
    {L : List (View.Piece (Elt Ideal) S64x64x256 .f32)} (hL : Of (left x0) L) :
    Of (left x0) (⟨Rect.unit (s := S64x64x256) ![h, q, 0] S8x8x256.size i8, v⟩ :: L) :=
  .cons (fun x => by
    subst hv
    refine (tile_apply _ x).trans (Ideal.mul_congr ?_ rfl)
    rw [← h2]
    refine congrArg (a2.view.read (Elt Ideal) X2) (funext fun a => Fin.ext ?_)
    match a with
    | ⟨0, _⟩ => rfl
    | ⟨1, _⟩ => rfl
    | ⟨2, _⟩ => rfl
    | ⟨3, _⟩ => rfl) hL

/-- A right block's rows read as a whole and stored as rows of the scratch: rows first, channel by lane. -/
theorem head_apply (v : Vec Ideal S1x64x64x256 .f32) (x : S64x64x256.Idx) :
    k0_pay176 v x = v (ix4 0 (x 0) (x 1) (x 2)) := by
  unfold_payloads
  pointwise []

theorem tail_apply (v : Vec Ideal S1x8x64x256 .f32) (x : S8x64x256.Idx) :
    k0_pay177 v x = v (ix4 0 (x 0) (x 1) (x 2)) := by
  unfold_payloads
  pointwise []

/-- THE FIRST 64 ROWS of the scratch of lane shift 0, stored at once. -/
theorem Rows.head {a3 : Memref sig .tc .vmem S1x64x64x264 .f32} {X3 : BufTy.Contents (Elt Ideal) a3.view.ty}
    {x1 : Vec Ideal S1x64x64x264 .f32} (x2 : Vec Ideal S1x64x64x264 .f32) (h3 : a3.view.read (Elt Ideal) X3 = x1)
    (i3 : ∀ a, (![0, 0, 0, 0] : Fin 4 → ℕ) a + S1x64x64x256.size a ≤ S1x64x64x264.size a)
    (io : ∀ a, (![0, 0, 0] : Fin 3 → ℕ) a + S64x64x256.size a ≤ S72x64x256.size a) :
    Rows x1 x2 0 (· < 64) [⟨Rect.unit (s := S72x64x256) ![0, 0, 0] S64x64x256.size io,
      k0_pay176 (a3.view.readAt (Elt Ideal) (Rect.unit (s := S1x64x64x264) ![0, 0, 0, 0] S1x64x64x256.size i3).toLoadRect X3)⟩] :=
  ⟨.cons (fun x => by
    dsimp only
    refine (head_apply _ x).trans ?_
    rw [win_lo (r := (x 0).val) (hr := (x 0).isLt) (q := x 1) (w := x 2)
      (h0 := by show 0 + 1 * (x 0).val = (x 0).val; omega)
      (h1 := by show 0 + 1 * (x 1).val = (x 1).val; omega)
      (h2 := by show 0 + 1 * (x 2).val = (x 2).val; omega), ← h3]
    refine congrArg (a3.view.read (Elt Ideal) X3) (funext fun a => Fin.ext ?_)
    match a with
    | ⟨0, _⟩ => rfl
    | ⟨1, _⟩ => show 0 + 1 * (x 0).val = (x 0).val; omega
    | ⟨2, _⟩ => show 0 + 1 * (x 1).val = (x 1).val; omega
    | ⟨3, _⟩ => show 0 + 1 * (x 2).val = (x 2).val + 0; omega) .nil,
  fun y hy => ⟨_, List.mem_cons_self, by
    rw [Rect.mem_set_unit]
    intro a
    match a with
    | ⟨0, _⟩ => exact ⟨Nat.zero_le _, by show (y 0).val < 0 + 64; omega⟩
    | ⟨1, _⟩ => exact ⟨Nat.zero_le _, by show (y 1).val < 0 + 64; have : (y 1).val < 64 := (y 1).isLt; omega⟩
    | ⟨2, _⟩ => exact ⟨Nat.zero_le _, by show (y 2).val < 0 + 256; have : (y 2).val < 256 := (y 2).isLt; omega⟩⟩⟩

/-- THE SCRATCH OF ONE LANE SHIFT, whole: the 64 copied rows, and the tail of 8 rows stored after them from the
    second right block. What was stored before (`M`), and what the buffer held (`f`), is covered. -/
theorem Rows.read {a4 : Memref sig .tc .vmem S1x64x64x264 .f32} {X4 : BufTy.Contents (Elt Ideal) a4.view.ty}
    {x1 x2 : Vec Ideal S1x64x64x264 .f32} {d : Fin 9} {L : List (View.Piece (Elt Ideal) S72x64x256 .f32)}
    (hL : Rows x1 x2 d (· < 64) L) (h4 : a4.view.read (Elt Ideal) X4 = x2)
    (i4 : ∀ a, (![0, 0, 0, d.val] : Fin 4 → ℕ) a + S1x8x64x256.size a ≤ S1x64x64x264.size a)
    (io : ∀ a, (![64, 0, 0] : Fin 3 → ℕ) a + S8x64x256.size a ≤ S72x64x256.size a)
    (a : Memref sig .tc .vmem S72x64x256 .f32) (f : BufTy.Contents (Elt Ideal) a.view.ty)
    (M : List (View.Piece (Elt Ideal) S72x64x256 .f32)) :
    a.view.read (Elt Ideal) (a.view.writes (Elt Ideal) f (⟨Rect.unit (s := S72x64x256) ![64, 0, 0] S8x64x256.size io,
      k0_pay177 (a4.view.readAt (Elt Ideal) (Rect.unit (s := S1x64x64x264) ![0, 0, 0, d.val] S1x8x64x256.size i4).toLoadRect X4)⟩
        :: (L ++ M))) = win x1 x2 d := by
  rw [← List.cons_append, View.writes_append]
  refine Of.read (.cons (fun x => ?_) hL.1) (fun y => ?_) a _
  · dsimp only
    refine (tail_apply _ x).trans ?_
    rw [win_hi (r := (x 0).val) (hr := (x 0).isLt) (q := x 1) (w := x 2)
      (h0 := by show 64 + 1 * (x 0).val = 64 + (x 0).val; omega)
      (h1 := by show 0 + 1 * (x 1).val = (x 1).val; omega)
      (h2 := by show 0 + 1 * (x 2).val = (x 2).val; omega), ← h4]
    refine congrArg (a4.view.read (Elt Ideal) X4) (funext fun a => Fin.ext ?_)
    match a with
    | ⟨0, _⟩ => rfl
    | ⟨1, _⟩ => show 0 + 1 * (x 0).val = (x 0).val; omega
    | ⟨2, _⟩ => show 0 + 1 * (x 1).val = (x 1).val; omega
    | ⟨3, _⟩ => show d.val + 1 * (x 2).val = (x 2).val + d.val; omega
  · by_cases hy : (y 0).val < 64
    · obtain ⟨p, hp, hm⟩ := hL.2 y hy
      exact ⟨p, List.mem_cons_of_mem _ hp, hm⟩
    · refine ⟨_, List.mem_cons_self, ?_⟩
      rw [Rect.mem_set_unit]
      intro a
      match a with
      | ⟨0, _⟩ => exact ⟨by show 64 ≤ (y 0).val; omega, by show (y 0).val < 64 + 8; have : (y 0).val < 72 := (y 0).isLt; omega⟩
      | ⟨1, _⟩ => exact ⟨Nat.zero_le _, by show (y 1).val < 0 + 64; have : (y 1).val < 64 := (y 1).isLt; omega⟩
      | ⟨2, _⟩ => exact ⟨Nat.zero_le _, by show (y 2).val < 0 + 256; have : (y 2).val < 256 := (y 2).isLt; omega⟩

/-- The same when nothing was stored in that scratch before. -/
theorem Rows.read' {a4 : Memref sig .tc .vmem S1x64x64x264 .f32} {X4 : BufTy.Contents (Elt Ideal) a4.view.ty}
    {x1 x2 : Vec Ideal S1x64x64x264 .f32} {d : Fin 9} {L : List (View.Piece (Elt Ideal) S72x64x256 .f32)}
    (hL : Rows x1 x2 d (· < 64) L) (h4 : a4.view.read (Elt Ideal) X4 = x2)
    (i4 : ∀ a, (![0, 0, 0, d.val] : Fin 4 → ℕ) a + S1x8x64x256.size a ≤ S1x64x64x264.size a)
    (io : ∀ a, (![64, 0, 0] : Fin 3 → ℕ) a + S8x64x256.size a ≤ S72x64x256.size a)
    (a : Memref sig .tc .vmem S72x64x256 .f32) (f : BufTy.Contents (Elt Ideal) a.view.ty) :
    a.view.read (Elt Ideal) (a.view.writes (Elt Ideal) f (⟨Rect.unit (s := S72x64x256) ![64, 0, 0] S8x64x256.size io,
      k0_pay177 (a4.view.readAt (Elt Ideal) (Rect.unit (s := S1x64x64x264) ![0, 0, 0, d.val] S1x8x64x256.size i4).toLoadRect X4)⟩
        :: L)) = win x1 x2 d := by
  have h := hL.read h4 i4 io a f []
  rwa [List.append_nil] at h

end Cert.KernelIdeal.Blocks

end
-- ==== Proof.BodyRun.lean ====
/-
  One grid point of the idealized kernel, run on its staging buffers: from its three input blocks it leaves the block
  of costs in the output buffer, whatever the scratch and output buffers held before.
-/
module

public import proofs.«01_k».proof.Proof.Trips
public import proofs.«01_k».proof.Proof.Fill
public import proofs.«01_k».proof.Proof.Gen.KernelIdeal.Frame.Runs

@[expose] public section

set_option maxRecDepth 16384

noncomputable section

namespace Cert.KernelIdeal.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt Ideal) ℕ (UR sig nD τ) ℕ

set_option maxHeartbeats 1876000 in
/-- THE BODY RUNS: the input blocks are kept and the output buffer ends at the point's output block, whatever the
    scratch and output buffers held. -/
theorem body_run (c : Dev nD) (i : grid0.Coords) (arg2 : Memref sig .tc .vmem S1x64x64x256 .f32) (harg2 : arg2.IsWhole) (arg3 : Memref sig .tc .vmem S1x64x64x264 .f32) (harg3 : arg3.IsWhole) (arg4 : Memref sig .tc .vmem S1x64x64x264 .f32) (harg4 : arg4.IsWhole) (arg5 : Memref sig .tc .vmem S1x81x64x256 .f32) (harg5 : arg5.IsWhole) (arg6 : Memref sig .tc .vmem S72x64x256 .f32) (harg6 : arg6.IsWhole) (arg7 : Memref sig .tc .vmem S72x64x256 .f32) (harg7 : arg7.IsWhole) (arg8 : Memref sig .tc .vmem S64x64x256 .f32) (harg8 : arg8.IsWhole)
    (x0 : Vec Ideal S1x64x64x256 .f32) (x1 : Vec Ideal S1x64x64x264 .f32) (x2 : Vec Ideal S1x64x64x264 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare (block (left x0) (win x1 x2)) ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := Ideal)) Variants.none c none) E (cc0_cost_volume_t i arg2 harg2 arg3 harg3 arg4 harg4 arg5 harg5 arg6 harg6 arg7 harg7 arg8 harg8) K := by
  simp only [cc0_cost_volume_t_eq_skeleton]; unfold cc0_cost_volume_t_skel
  simp only [k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2
  sl_exec
  sl_step
  iapply Hk
  have hA : arg8.view.read (Elt Ideal) (arg8.view.writes (Elt Ideal) arg8.view.junk (body_run.sl.HS2_64 c arg2 harg2 x0)) = left x0 := by
    refine Of.read ?_ ?_ _ _
    swap; · exact View.cover_of_tiledL _ S8x8x256.size (by sl_kernel_rfl)
    unfold body_run.sl.HS2_64
    repeat refine .tile hf0 rfl ?_
    exact .nil
  have h1 : arg6.view.read (Elt Ideal) (arg6.view.writes (Elt Ideal) arg6.view.junk (body_run.sl.HS0_2 c arg3 harg3 arg4 harg4 x1 x2)) = win x1 x2 0 :=
    (Rows.head x2 hf1 _ _).read hf2 _ _ _ _ []
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine Of.read ?_ ?_ _ _
    swap; · exact View.cover_of_tiledL _ S1x1x1x256.size (by sl_kernel_rfl)
    exact
      have l1 := loop1 hf1 h1 hA
      have h2 := l1.2.read' hf2 (d := 1) inb_S1x64x64x264_S1x8x64x256_0_0_0_1 inb_S72x64x256_S8x64x256_64_0_0 arg7 fs1
      have l2 := loop2 hf1 h2 hA
      have h3 := l2.2.read hf2 (d := 2) inb_S1x64x64x264_S1x8x64x256_0_0_0_2 inb_S72x64x256_S8x64x256_64_0_0 arg6 arg6.view.junk _
      have l3 := loop3 hf1 h3 hA
      have h4 := l3.2.read hf2 (d := 3) inb_S1x64x64x264_S1x8x64x256_0_0_0_3 inb_S72x64x256_S8x64x256_64_0_0 arg7 fs1 _
      have l4 := loop4 hf1 h4 hA
      have h5 := l4.2.read hf2 (d := 4) inb_S1x64x64x264_S1x8x64x256_0_0_0_4 inb_S72x64x256_S8x64x256_64_0_0 arg6 arg6.view.junk _
      have l5 := loop5 hf1 h5 hA
      have h6 := l5.2.read hf2 (d := 5) inb_S1x64x64x264_S1x8x64x256_0_0_0_5 inb_S72x64x256_S8x64x256_64_0_0 arg7 fs1 _
      have l6 := loop6 hf1 h6 hA
      have h7 := l6.2.read hf2 (d := 6) inb_S1x64x64x264_S1x8x64x256_0_0_0_6 inb_S72x64x256_S8x64x256_64_0_0 arg6 arg6.view.junk _
      have l7 := loop7 hf1 h7 hA
      have h8 := l7.2.read hf2 (d := 7) inb_S1x64x64x264_S1x8x64x256_0_0_0_7 inb_S72x64x256_S8x64x256_64_0_0 arg7 fs1 _
      have l8 := loop8 hf1 h8 hA
      have h9 := l8.2.read hf2 (d := 8) inb_S1x64x64x264_S1x8x64x256_0_0_0_8 inb_S72x64x256_S8x64x256_64_0_0 arg6 arg6.view.junk _
      (loop9 h9 hA).append <| l8.1.append <| l7.1.append <| l6.1.append <| l5.1.append <| l4.1.append <| l3.1.append <| l2.1.append l1.1
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

end Cert.KernelIdeal.Blocks

end
-- ==== Proof.Region.lean ====
/-
  The kernel's launch: every grid point leaves the output block of its three input blocks, so the launch
  terminates with the output array holding those blocks, the argument arrays unchanged and every counter at zero.
-/
module

public import proofs.«01_k».proof.Proof.BodyRun
public import Idealize.ShloMosaic.Lib.Claim

@[expose] public section

set_option maxRecDepth 16384

noncomputable section

namespace Cert.KernelIdeal.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- The output block of grid point `t`: the scaled left rows of its left block against the moved rows of its two
    right blocks. -/
def outBlock (c : Dev nD) (t : Fin cfg0.N) : Vec Ideal S1x81x64x256 .f32 :=
  block (left (iblk m c 0 t)) (win (iblk m c 1 t) (iblk m c 2 t))

/-- The launch's proof data: each input's buffer holds its block after a point, the output's the output block. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock m c t
  Φ _ := Pipeline.ΦA spec0 c
  q w := Pipeline.shareOf spec0 w
  owed _ := 0

/-- The launch finds the arrays at their contents on entry. -/
theorem dats_A (c : Dev nD) (w : Fin cfg0.W) : (dats m 0 c).A w = V m c (Pipeline.arrRef spec0 w) := by
  dsimp only [dats]

/-- What a point leaves in the left window, in the two right windows, and in the output window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outBlock m c t := by dsimp only [dats]

/-- A point's body, run on the staging memrefs: from the input blocks to the input blocks and the output block. -/
theorem body_at (c : Dev nD) (t : Fin cfg0.N) :
    iprop((dats m 0 c).Φ t.castSucc ∗ (dats m 0 c).owesAt () t.castSucc
        ∗ (∃ d, owns (c : Thread nD τ) (ms0_0 t) fullShare ((dats m 0 c).before 0 t d))
        ∗ (∃ d, owns (c : Thread nD τ) (ms0_1 t) fullShare ((dats m 0 c).before 1 t d))
        ∗ (∃ d, owns (c : Thread nD τ) (ms0_2 t) fullShare ((dats m 0 c).before 2 t d))
        ∗ (∃ d, owns (c : Thread nD τ) (ms0_3 t) fullShare ((dats m 0 c).before 3 t d)))
      ⊢ wp frame (wpE (defs₀ (F := Ideal)) Variants.none c none) Set.univ (bodyAt0 t) (fun _ =>
        iprop((dats m 0 c).Φ t.succ ∗ (dats m 0 c).owesAt () t.succ
          ∗ owns (c : Thread nD τ) (ms0_0 t) fullShare ((dats m 0 c).after 0 t)
          ∗ owns (c : Thread nD τ) (ms0_1 t) fullShare ((dats m 0 c).after 1 t)
          ∗ owns (c : Thread nD τ) (ms0_2 t) fullShare ((dats m 0 c).after 2 t)
          ∗ owns (c : Thread nD τ) (ms0_3 t) fullShare ((dats m 0 c).after 3 t))) := by
  unfold bodyAt0
  simp only [before0_0_of m (dats m 0 c) (dats_A m c 0) (after0 m c), before0_1_of m (dats m 0 c) (dats_A m c 1) (after1 m c),
    before0_2_of m (dats m 0 c) (dats_A m c 2) (after2 m c)]
  rw [show (dats m 0 c).Φ t.succ = (dats m 0 c).Φ t.castSucc from rfl,
    show (dats m 0 c).owesAt () t.succ = (dats m 0 c).owesAt () t.castSucc from rfl, after0, after1, after2, after3,
    show (dats m 0 c).Φ t.castSucc = Pipeline.ΦA spec0 c from rfl, PhiA0_eq]
  unfold outBlock
  iintro ⟨⟨⟨HS0, HS1, HS2⟩, Hg⟩, Ho, ⟨%d0, H0⟩, ⟨%d1, H1⟩, ⟨%d2, H2⟩, ⟨%d3, H3⟩⟩
  iapply (body_run c (grid0.coords t) _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  iintro ⟨H0, H1, H2, H3, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  iexact H3

/-- The same for the body as the launch calls it. -/
theorem obligation (c : Dev nD) : BodyObligation (dats m 0 c) (defs₀ (F := Ideal)) Variants.none () Set.univ := fun t => by
  rw [bigSep_W0, bigSep_W0, show defs₀ (F := Ideal) .tc cfg0.body (cfg0.bodyArgs t (cfg0.slots t)) = bodyAt0 t by
    unfold defs₀; rw [Defs.onTc_tc]]
  exact triple_restated (body_at m c t) rfl .rfl fun _ => .rfl

set_option backward.isDefEq.respectTransparency.types false in
/-- THE LAUNCH: it terminates with every array at what the points wrote, the rest as found, and every counter at zero. -/
theorem launch : θ_run defs (onTc (τ := τ) (main (F := Ideal))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := dats_A m) (hΦ := fun _ _ => rfl)

/-- The launch terminates with the argument arrays unchanged and every counter at zero. -/
theorem quiescent : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (dats_A m) ((θ_run defs _ _).mono (fun _ h => h.1) (launch m ρ)))
    ((θ_run defs _ _).mono (fun _ h => h.2) (launch m ρ))

/-- The launch terminates with the output array at what the points wrote, and the arguments unchanged. -/
theorem launch_out : θ_run defs (onTc (τ := τ) (main (F := Ideal))) ⟨m, fun _ => 0, ρ⟩ fun r => ∀ c : Dev nD,
      r.2.mem ((c : Thread nD τ).loc main_v2) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h.1 c).1 3,
      ((h.1 c).1 0).trans (((dats m 0 c).arrAt_in 0 rfl _).trans ((dats_A m c 0).trans (V_main_arg0 m c))),
      ((h.1 c).2 main_arg1 (Pipeline.mem_restRefs_of main_arg1 (by decide) (by decide))).trans (V_main_arg1 m c)⟩)
    (launch m ρ)

end Cert.KernelIdeal.Blocks

end
-- ==== Proof.Spec.lean ====
/-
  The result of the kernel as a whole array: at batch `b`, displacement channel `k`, row `h`, lane `w` the sum over
  the 64 feature channels of the scaled left value times the right value displaced by channel `k`'s row and lane
  shifts, where the right array counts as zero outside its bounds.
-/
module

public import proofs.«01_k».proof.Proof.Block

@[expose] public section

noncomputable section

namespace Cert.KernelIdeal.Blocks

open Idealize.ShloMosaic
open Cert.KernelIdeal Cert.KernelIdeal.Gen

/-- The right array at row `H` and lane `W` of its extension by four rows and four lanes of zeros on every side. -/
def padded (x2 : Vec Ideal S8x64x192x256 .f32) (b : Fin 8) (c : Fin 64) (H W : ℕ) : Ideal .f32 :=
  if h : (4 ≤ H ∧ H < 196) ∧ (4 ≤ W ∧ W < 260) then
    x2 (ix4 b c ⟨H - 4, by omega⟩ ⟨W - 4, by omega⟩)
  else (0 : EReal)

/-- The result: scaled left times displaced right, summed over the feature channels. -/
def cost (x1 x2 : Vec Ideal S8x64x192x256 .f32) : Vec Ideal S8x81x192x256 .f32 := fun y =>
  ∑ c : Fin 64, (x1 (ix4 (y 0) c (y 2) (y 3)) * (Named.named κ "inv" 0x3C4A4588#32 : Ideal .f32))
    * padded x2 (y 0) c ((y 2).val + (rowOf (y 1).val).val) ((y 3).val + (laneOf (y 1).val).val)

end Cert.KernelIdeal.Blocks

end
-- ==== Proof.Array.lean ====
/-
  The kernel's output array after the launch: the 24 blocks of the grid's points tile it, and each of them is the
  result read at its own place.
-/
module

public import proofs.«01_k».proof.Proof.Region
public import proofs.«01_k».proof.Proof.Spec
public import Idealize.ShloMosaic.Lib.Pipeline.ValueKit

@[expose] public section

set_option maxRecDepth 16384

noncomputable section

namespace Cert.KernelIdeal.Blocks

open Idealize.ShloMosaic Idealize.ShloMosaic.TcCoe Idealize.SL.Sem
open Cert.KernelIdeal Cert.KernelIdeal.Gen

variable (m : (ℓ : Loc nD τ sig) → Buf (Elt Ideal) ℓ)

/-- The right rows as the kernel reads them: rows before channels, four zero rows in front and sixty behind, four
    zero lanes on either side. -/
def extended (x2 : Vec Ideal S8x64x192x256 .f32) : Vec Ideal S8x256x64x264 .f32 :=
  pad S8x256x64x264 ![0, 4, 0, 4] ![0, 60, 0, 4] ![0, 0, 0, 0]
    (transpose S8x192x64x256 [0, 2, 1, 3] x2 transposes_S8x64x192x256_S8x192x64x256_0_2_1_3)
    (sitofp (F := Ideal) .f32 (constantI S_ 32 0#32)) pads_S8x192x64x256_S8x256x64x264_000_4600_000_440 h_S_

/-- The array the right windows read holds those rows when the kernel is entered. -/
theorem V_main_v1 (c : Dev nD) : V m c main_v1 = extended (m ((c : Thread nD τ).loc main_arg1)) := by
  show StableHlo.after (List.flatten [hostOps0, hostOps0_1]) _ (Proc.devRef .tc main_v1) = _
  simp only [hostOps0, hostOps0_1, List.flatten_cons, List.flatten_nil, List.append_nil, List.cons_append, List.nil_append]
  after_results
  rfl

/-- Those rows at an index. -/
theorem extended_apply (x2 : Vec Ideal S8x64x192x256 .f32) (b : Fin 8) (H : Fin 256) (c : Fin 64) (W : Fin 264) :
    extended x2 (ix4 b H c W) = padded x2 b c H.val W.val := by
  unfold extended padded
  pointwise
  refine dite_congr (propext ⟨fun h => by omega, fun h => by omega⟩) (fun _ => rfl) fun _ => ?_
  show ((((0#32 : BitVec 32).toInt : ℤ) : ℝ) : EReal) = 0
  simp

/-- Where each window's block lies: the batch and the group of 64 rows of the point, the second right block one
    group further on. -/
theorem index0 : ∀ t : Fin cfg0.N, win0_0.index t = ![(grid0.coords t 0).val, 0, (grid0.coords t 1).val, 0] :=
  (by decide +kernel : ∀ t : Fin grid0.N, _)
theorem index1 : ∀ t : Fin cfg0.N, win0_1.index t = ![(grid0.coords t 0).val, (grid0.coords t 1).val, 0, 0] :=
  (by decide +kernel : ∀ t : Fin grid0.N, _)
theorem index2 : ∀ t : Fin cfg0.N, win0_2.index t = ![(grid0.coords t 0).val, (grid0.coords t 1).val + 1, 0, 0] :=
  (by decide +kernel : ∀ t : Fin grid0.N, _)
theorem index3 : ∀ t : Fin cfg0.N, win0_3.index t = ![(grid0.coords t 0).val, 0, (grid0.coords t 1).val, 0] :=
  (by decide +kernel : ∀ t : Fin grid0.N, _)

/-- The left block of a point at an index. -/
theorem left_at (c : Dev nD) (t : Fin cfg0.N) (y : S1x64x64x256.Idx) (i : S8x64x192x256.Idx)
    (h0 : (i 0).val = (grid0.coords t 0).val) (h1 : (i 1).val = (y 1).val)
    (h2 : (i 2).val = (grid0.coords t 1).val * 64 + (y 2).val) (h3 : (i 3).val = (y 3).val) :
    iblk m c 0 t y = (m ((c : Thread nD τ).loc main_arg0) : Vec Ideal S8x64x192x256 .f32) i := by
  blk_simp [iblk]
  rw [V_main_arg0]
  refine congrArg _ ?_
  have hy : (y 0).val < 1 := (y 0).isLt
  blk_ext [index0]

/-- The first right block of a point at an index. -/
theorem right1_at (c : Dev nD) (t : Fin cfg0.N) (y : S1x64x64x264.Idx) (b : Fin 8) (H : ℕ)
    (h0 : b.val = (grid0.coords t 0).val) (h1 : H = (grid0.coords t 1).val * 64 + (y 1).val) (hH : H < 256) :
    iblk m c 1 t y = padded (m ((c : Thread nD τ).loc main_arg1)) b (y 2) H (y 3).val := by
  rw [← extended_apply _ b ⟨H, hH⟩ (y 2) (y 3), ← V_main_v1]
  blk_simp [iblk]
  refine congrArg _ ?_
  have hy : (y 0).val < 1 := (y 0).isLt
  blk_ext [index1]

/-- The second right block of a point at an index. -/
theorem right2_at (c : Dev nD) (t : Fin cfg0.N) (y : S1x64x64x264.Idx) (b : Fin 8) (H : ℕ)
    (h0 : b.val = (grid0.coords t 0).val) (h1 : H = ((grid0.coords t 1).val + 1) * 64 + (y 1).val) (hH : H < 256) :
    iblk m c 2 t y = padded (m ((c : Thread nD τ).loc main_arg1)) b (y 2) H (y 3).val := by
  rw [← extended_apply _ b ⟨H, hH⟩ (y 2) (y 3), ← V_main_v1]
  blk_simp [iblk]
  refine congrArg _ ?_
  have hy : (y 0).val < 1 := (y 0).isLt
  blk_ext [index2]

/-- The right rows moved `d` lanes, at row `r` of a point. -/
theorem win_at (c : Dev nD) (t : Fin cfg0.N) (d : Fin 9) (r : Fin 72) (ch : Fin 64) (w : Fin 256) (b : Fin 8) (H : ℕ)
    (h0 : b.val = (grid0.coords t 0).val) (h1 : H = (grid0.coords t 1).val * 64 + r.val) :
    win (iblk m c 1 t) (iblk m c 2 t) d (ix3 r ch w)
      = padded (m ((c : Thread nD τ).loc main_arg1)) b ch H (w.val + d.val) := by
  have hg : (grid0.coords t 1).val < 3 := (grid0.coords t 1).isLt
  have hr := r.isLt
  unfold win
  by_cases h : r.val < 64
  · rw [dif_pos (show ((ix3 r ch w : S72x64x256.Idx) 0).val < 64 from h)]
    exact right1_at m c t _ b H h0 h1 (by omega)
  · rw [dif_neg (show ¬ ((ix3 r ch w : S72x64x256.Idx) 0).val < 64 from h)]
    exact right2_at m c t _ b H h0 (by show H = _ + (r.val - 64); omega) (by omega)

/-- The output block of a point at an index is the result at the place that index has in the array. -/
theorem outBlock_at (c : Dev nD) (t : Fin cfg0.N) (y : S1x81x64x256.Idx) (i : S8x81x192x256.Idx)
    (i0 : (i 0).val = (grid0.coords t 0).val) (i1 : (i 1).val = (y 1).val)
    (i2 : (i 2).val = (grid0.coords t 1).val * 64 + (y 2).val) (i3 : (i 3).val = (y 3).val) :
    outBlock m c t y = cost (m ((c : Thread nD τ).loc main_arg0)) (m ((c : Thread nD τ).loc main_arg1)) i := by
  unfold outBlock block cost
  refine Finset.sum_congr rfl fun ch _ => ?_
  refine Ideal.mul_congr ?_ ?_
  · unfold left
    refine Ideal.mul_congr ?_ rfl
    exact left_at m c t _ _ i0 rfl i2 i3
  · rw [i1]
    refine (win_at m c t _ _ ch (y 3) (i 0) _ i0 rfl).trans ?_
    rw [i2, i3, Nat.add_assoc]

/-- THE OUTPUT ARRAY: after the launch it is the result of the two arguments. -/
theorem out_array (c : Dev nD) : (dats m 0 c).arrAt 3 cfg0.N
    = cost (m ((c : Thread nD τ).loc main_arg0)) (m ((c : Thread nD τ).loc main_arg1)) := by
  refine (dats m 0 c).arrAt_eq_of_covers 3 _ (by decide +kernel) fun t hf y => ?_
  blk_simp
  rw [after3]
  have hy : (y 0).val < 1 := (y 0).isLt
  obtain ⟨i, hi⟩ : ∃ i : S8x81x192x256.Idx, i = (win0_3.blk t).view.emb y := ⟨_, rfl⟩
  have i0 : (i 0).val = (grid0.coords t 0).val := by rw [hi]; blk_simp [index3]
  have i1 : (i 1).val = (y 1).val := by rw [hi]; blk_simp [index3]
  have i2 : (i 2).val = (grid0.coords t 1).val * 64 + (y 2).val := by rw [hi]; blk_simp [index3]
  have i3 : (i 3).val = (y 3).val := by rw [hi]; blk_simp [index3]
  rw [← hi]
  exact outBlock_at m c t y i i0 i1 i2 i3

end Cert.KernelIdeal.Blocks

end
-- ==== Proof.RefValue.lean ====
/-
  What the reference computes, as a whole array: 81 pieces, one for each displacement channel, laid side by side in
  nine stacks of nine and divided by 81.  A piece is one function of the channel's row and lane shift.
-/
module

public import proofs.«01_k».proof.Proof.Spec
public import proofs.«01_k».proof.Proof.Gen.ReferenceIdeal.Run
public import proofs.«01_k».proof.Proof.Gen.ReferenceIdeal.Read
public import Idealize.ShloMosaic.Lib.Pipeline.Value

@[expose] public section

set_option maxRecDepth 16384

noncomputable section

namespace Cert.ReferenceIdeal.Pieces

open Idealize.ShloMosaic Idealize.SL.Sem
open Cert.ReferenceIdeal Cert.ReferenceIdeal.Gen Cert.ReferenceIdeal.Read
open Cert.KernelIdeal.Blocks (rowOf laneOf padded)

/-- A slice of the padded array at a row offset and a lane offset of at most eight lies inside it. -/
theorem slices (r d : Fin 9) : S8x64x200x264.Slices ![0, 0, r.val, d.val] S8x64x192x256 :=
  ⟨rfl, fun a => by
    have hr := r.isLt
    have hd := d.isLt
    match a with
    | ⟨0, _⟩ => show 0 + 8 ≤ 8; omega
    | ⟨1, _⟩ => show 0 + 64 ≤ 64; omega
    | ⟨2, _⟩ => show r.val + 192 ≤ 200; omega
    | ⟨3, _⟩ => show d.val + 256 ≤ 264; omega⟩

/-- The piece of the shifts `r`, `d`: left times the padded right array cut at those offsets, summed over the feature
    channels, as one channel of the result. -/
def piece (x1 x2 : Vec Ideal S8x64x192x256 .f32) (r d : Fin 9) : Vec Ideal S8x1x192x256 .f32 :=
  broadcastInDim S8x1x192x256 ![0, 2, 3] bcast_S8x192x256_S8x1x192x256_0_2_3
    (Host.reduceAdd (mulf x1 (extractStridedSlice S8x64x192x256 ![0, 0, r.val, d.val] (val_main_v0 (F := Ideal) x2) (slices r d)))
      (constant (F := Ideal) S_ .f32 0x00000000#32) reducesTo_S8x64x192x256_S8x192x256_d1 h_S_)

/-- Nine pieces side by side: the channels `9 g` to `9 g + 8`. -/
def group (x1 x2 : Vec Ideal S8x64x192x256 .f32) (g : Fin 9) : Vec Ideal S8x9x192x256 .f32 :=
  concatenate S8x9x192x256 1 (List.ofFn fun q : Fin 9 =>
    (⟨S8x1x192x256, piece x1 x2 (rowOf (9 * g.val + q.val)) (laneOf (9 * g.val + q.val))⟩ : (s : Shape) × (s.Idx → Ideal .f32)))
    concatenates_S8x1x192x256_S8x1x192x256_S8x1x192x256_S8x1x192x256_S8x1x192x256_S8x1x192x256_S8x1x192x256_S8x1x192x256_S8x1x192x256_S8x9x192x256_d1

/-- The nine groups side by side: all 81 channels. -/
def stack (x1 x2 : Vec Ideal S8x64x192x256 .f32) : Vec Ideal S8x81x192x256 .f32 :=
  concatenate S8x81x192x256 1 (List.ofFn fun g : Fin 9 =>
    (⟨S8x9x192x256, group x1 x2 g⟩ : (s : Shape) × (s.Idx → Ideal .f32)))
    concatenates_S8x9x192x256_S8x9x192x256_S8x9x192x256_S8x9x192x256_S8x9x192x256_S8x9x192x256_S8x9x192x256_S8x9x192x256_S8x9x192x256_S8x81x192x256_d1

/-- Each stack of the reference is one of those groups: its slices are taken at the groups' shifts. -/
theorem v253 (x1 x2 : Vec Ideal S8x64x192x256 .f32) : val_main_v253 (F := Ideal) x1 x2 = group x1 x2 0 := rfl
theorem v263 (x1 x2 : Vec Ideal S8x64x192x256 .f32) : val_main_v263 (F := Ideal) x1 x2 = group x1 x2 1 := rfl
theorem v273 (x1 x2 : Vec Ideal S8x64x192x256 .f32) : val_main_v273 (F := Ideal) x1 x2 = group x1 x2 2 := rfl
theorem v283 (x1 x2 : Vec Ideal S8x64x192x256 .f32) : val_main_v283 (F := Ideal) x1 x2 = group x1 x2 3 := rfl
theorem v293 (x1 x2 : Vec Ideal S8x64x192x256 .f32) : val_main_v293 (F := Ideal) x1 x2 = group x1 x2 4 := rfl
theorem v303 (x1 x2 : Vec Ideal S8x64x192x256 .f32) : val_main_v303 (F := Ideal) x1 x2 = group x1 x2 5 := rfl
theorem v313 (x1 x2 : Vec Ideal S8x64x192x256 .f32) : val_main_v313 (F := Ideal) x1 x2 = group x1 x2 6 := rfl
theorem v323 (x1 x2 : Vec Ideal S8x64x192x256 .f32) : val_main_v323 (F := Ideal) x1 x2 = group x1 x2 7 := rfl
theorem v333 (x1 x2 : Vec Ideal S8x64x192x256 .f32) : val_main_v333 (F := Ideal) x1 x2 = group x1 x2 8 := rfl

/-- What the reference divides by 81 is all of them side by side. -/
theorem v334 (x1 x2 : Vec Ideal S8x64x192x256 .f32) : val_main_v334 (F := Ideal) x1 x2 = stack x1 x2 := by
  unfold val_main_v334
  rw [v253, v263, v273, v283, v293, v303, v313, v323, v333]
  rfl

/-- The groups at an index: the piece the channel names. -/
theorem group_apply (x1 x2 : Vec Ideal S8x64x192x256 .f32) (g : Fin 9) (i : S8x9x192x256.Idx) :
    group x1 x2 g i = piece x1 x2 (rowOf (9 * g.val + (i 1).val)) (laneOf (9 * g.val + (i 1).val)) (ix4 (i 0) 0 (i 2) (i 3)) := by
  unfold group
  exact concatenate_ofFn_unit_apply (t := S8x9x192x256) (s₁ := S8x1x192x256) 1
    (fun q : Fin 9 => piece x1 x2 (rowOf (9 * g.val + q.val)) (laneOf (9 * g.val + q.val))) _ rfl rfl i (i 1) rfl
    (ix4 (i 0) 0 (i 2) (i 3)) fun b hb => match b with
      | ⟨0, _⟩ => rfl
      | ⟨1, _⟩ => absurd rfl hb
      | ⟨2, _⟩ => rfl
      | ⟨3, _⟩ => rfl

/-- All the channels at an index: again the piece the channel names. -/
theorem stack_apply (x1 x2 : Vec Ideal S8x64x192x256 .f32) (i : S8x81x192x256.Idx) :
    stack x1 x2 i = piece x1 x2 (rowOf (i 1).val) (laneOf (i 1).val) (ix4 (i 0) 0 (i 2) (i 3)) := by
  have h1 : (i 1).val < 81 := (i 1).isLt
  unfold stack
  refine (concatenate_ofFn_apply (t := S8x81x192x256) (s₁ := S8x9x192x256) 1 (fun g : Fin 9 => group x1 x2 g) _ rfl 9 rfl i
    ⟨(i 1).val / 9, by omega⟩ rfl (ix4 (i 0) ⟨(i 1).val % 9, by omega⟩ (i 2) (i 3)) rfl fun b hb => match b with
      | ⟨0, _⟩ => rfl
      | ⟨1, _⟩ => absurd rfl hb
      | ⟨2, _⟩ => rfl
      | ⟨3, _⟩ => rfl).trans ?_
  refine (group_apply x1 x2 _ _).trans ?_
  show piece x1 x2 (rowOf (9 * ((i 1).val / 9) + (i 1).val % 9)) (laneOf (9 * ((i 1).val / 9) + (i 1).val % 9)) _ = _
  rw [Nat.div_add_mod]
  rfl

/-- The reference's padded right array at an index. -/
theorem v0_apply (x2 : Vec Ideal S8x64x192x256 .f32) (b : Fin 8) (c : Fin 64) (H : Fin 200) (W : Fin 264) :
    val_main_v0 (F := Ideal) x2 (ix4 b c H W) = padded x2 b c H.val W.val := by
  unfold val_main_v0 padded
  pointwise
  refine dite_congr (propext ⟨fun h => by omega, fun h => by omega⟩) (fun _ => rfl) fun _ => ?_
  show ((((0#32 : BitVec 32).toInt : ℤ) : ℝ) : EReal) = 0
  simp

/-- A piece at an index: the sum over the feature channels of left times displaced right. -/
theorem piece_apply (x1 x2 : Vec Ideal S8x64x192x256 .f32) (r d : Fin 9) (b : Fin 8) (h : Fin 192) (w : Fin 256) :
    piece x1 x2 r d (ix4 b 0 h w)
      = ∑ c : Fin 64, x1 (ix4 b c h w) * padded x2 b c (h.val + r.val) (w.val + d.val) := by
  have e (c : Fin 64) : padded x2 b c (h.val + r.val) (w.val + d.val)
      = val_main_v0 (F := Ideal) x2 (ix4 b c ⟨h.val + r.val, by omega⟩ ⟨w.val + d.val, by omega⟩) := (v0_apply x2 b c ⟨h.val + r.val, by omega⟩ ⟨w.val + d.val, by omega⟩).symm
  simp only [e]
  unfold piece
  generalize val_main_v0 (F := Ideal) x2 = p
  pointwise
  simp only [Nat.add_comm]

/-- THE REFERENCE'S RESULT at an index: the sum over the feature channels of left times displaced right, divided by 81. -/
theorem result_apply (x1 x2 : Vec Ideal S8x64x192x256 .f32) (i : S8x81x192x256.Idx) :
    val_main_v336 (F := Ideal) x1 x2 i
      = Ideal.div (∑ c : Fin 64, x1 (ix4 (i 0) c (i 2) (i 3))
          * padded x2 (i 0) c ((i 2).val + (rowOf (i 1).val).val) ((i 3).val + (laneOf (i 1).val).val))
        (Ideal.ofBits .f32 0x42A20000#32) := by
  rw [val_main_v336_apply, v334, stack_apply, val_main_v335_apply]
  exact congrArg (Ideal.div · _) (piece_apply x1 x2 _ _ (i 0) (i 2) (i 3))

end Cert.ReferenceIdeal.Pieces

end
-- ==== Proof.Equal.lean ====
/-
  The equation: scaling every left value by the named inverse of 81 before the sum is dividing the sum by 81.
-/
module

public import proofs.«01_k».proof.Proof.RefValue

@[expose] public section

noncomputable section

namespace Cert.ReferenceIdeal.Pieces

open Idealize.ShloMosaic
open Cert.ReferenceIdeal Cert.ReferenceIdeal.Gen Cert.ReferenceIdeal.Read
open Cert.KernelIdeal.Blocks (cost)

/-- The named constant is the inverse of 81. -/
theorem inv_value : (Named.named Cert.KernelIdeal.κ "inv" 0x3C4A4588#32 : Ideal .f32) = ((1 / 81 : ℝ) : EReal) :=
  (IdealRules.named_const.ideal_named_scalar _ _ _ _ rfl).trans (by norm_num)

/-- The reference's divisor is 81. -/
theorem divisor : Ideal.ofBits .f32 0x42A20000#32 = ((81 : ℝ) : EReal) := by
  simp [Ideal.ofBits, Ideal.ieee, -EReal.coe_mul]; norm_num

/-- A real factor comes out of a finite sum of products. -/
theorem sum_scaled {ι : Type} (s : Finset ι) (a p : ι → EReal) (r : ℝ) (hr : 0 ≤ r) :
    ∑ c ∈ s, (a c * (r : EReal)) * p c = (∑ c ∈ s, a c * p c) * (r : EReal) := by
  classical
  induction s using Finset.induction_on with
  | empty => simp
  | insert c s hc ih =>
    rw [Finset.sum_insert hc, Finset.sum_insert hc, ih,
      EReal.right_distrib_of_nonneg_of_ne_top (EReal.coe_nonneg.mpr hr) (EReal.coe_ne_top r), mul_right_comm]

/-- THE EQUATION: the reference's result is the kernel's. -/
theorem result_eq (x1 x2 : Vec Ideal S8x64x192x256 .f32) : val_main_v336 (F := Ideal) x1 x2 = cost x1 x2 := by
  funext i
  rw [result_apply, divisor, Ideal.div_coe (by norm_num : (81 : ℝ) ≠ 0)]
  unfold cost
  rw [inv_value]
  exact (sum_scaled Finset.univ _ _ _ (by norm_num)).symm

end Cert.ReferenceIdeal.Pieces

end
-- ==== Proof.lean ====
/-
  The proof of the claims: the frames of the kernel, of its idealization and of the reference; that the idealization
  changes only the named constant; and that at exact arithmetic the kernel's result is the reference's.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.SafeRegion
public import proofs.«01_k».proof.Proof.Array
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel leaves its arguments unchanged and its counters at zero. -/
theorem frame_p : Cert.quiescent_Kernel (hKernel := Cert.Kernel.Gen.facts) := fun m ρ _ => Cert.Kernel.Safe.quiescent m ρ

/-- So does its idealization. -/
theorem frame_pi : Cert.quiescent_KernelIdeal (hKernelIdeal := Cert.KernelIdeal.Gen.facts) := fun m ρ _ =>
  Cert.KernelIdeal.Blocks.quiescent m ρ

/-- So does the reference, which has no counters. -/
theorem frame_ri : Cert.quiescent_ReferenceIdeal (hReferenceIdeal := Cert.ReferenceIdeal.Gen.facts) := fun m ρ _ =>
  (θ_run _ _ _).mono (fun r h => ⟨fun c => (h c).2, sem_eq_zero_of_no_sems (by decide) r.2⟩)
    (Cert.ReferenceIdeal.Value.run (F := Ideal) m ρ)

/-- The idealization names one constant, the rounded inverse of 81, and reads it as that inverse. -/
theorem preserves : Cert.preserves_Kernel_KernelIdeal :=
  IdealRules.named_const.statement Cert.KernelIdeal.κ "inv" .f32 0x3C4A4588#32 _ rfl

/-- At exact arithmetic the kernel and the reference end with equal results: both are the cost of the two arguments. -/
theorem algebraic : Cert.algebraic_KernelIdeal_ReferenceIdeal (hKernelIdeal := Cert.KernelIdeal.Gen.facts)
    (hReferenceIdeal := Cert.ReferenceIdeal.Gen.facts) := fun m g m' g' _ hagree =>
  ⟨fun c => Cert.KernelIdeal.Blocks.cost (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    (θ_run _ _ _).mono (fun _ h c => ⟨(h c).1.trans (Cert.KernelIdeal.Blocks.out_array m c), (h c).2⟩)
      (Cert.KernelIdeal.Blocks.launch_out m g),
    (θ_run _ _ _).mono (fun _ h c => ⟨by
        refine (h c).1.trans ((Cert.ReferenceIdeal.Read.val_main_v336_eq (F := Ideal) _).trans ?_)
        refine (Cert.ReferenceIdeal.Pieces.result_eq _ _).trans ?_
        exact congrArg₂ Cert.KernelIdeal.Blocks.cost (hagree c).1 (hagree c).2, (h c).2⟩)
      (Cert.ReferenceIdeal.Value.run (F := Ideal) m' g')⟩

/-- All the claims. -/
theorem claim : Cert.Claim :=
  ⟨Cert.Kernel.Gen.facts, Cert.KernelIdeal.Gen.facts, Cert.ReferenceIdeal.Gen.facts,
    frame_p, frame_pi, frame_ri, preserves, algebraic⟩

end Cert.Proof

end
